-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v80)) (v1 : (c : Dev Cert.KernelIdeal.nD) → Buf (Elt Ideal) ((c.tc : Thread Cert.KernelIdeal.nD Cert.KernelIdeal.τ).loc Cert.KernelIdeal.main_v81)) (v2 : (c : Dev Cert.KernelIdeal.nD) → Buf (Elt Ideal) ((c.tc : Thread Cert.KernelIdeal.nD Cert.KernelIdeal.τ).loc Cert.KernelIdeal.main_v82)) (v3 : (c : Dev Cert.KernelIdeal.nD) → Buf (Elt Ideal) ((c.tc : Thread Cert.KernelIdeal.nD Cert.KernelIdeal.τ).loc Cert.KernelIdeal.main_v83)) (v4 : (c : Dev Cert.KernelIdeal.nD) → Buf (Elt Ideal) ((c.tc : Thread Cert.KernelIdeal.nD Cert.KernelIdeal.τ).loc Cert.KernelIdeal.main_v84)) (v5 : (c : Dev Cert.KernelIdeal.nD) → Buf (Elt Ideal) ((c.tc : Thread Cert.KernelIdeal.nD Cert.KernelIdeal.τ).loc Cert.KernelIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v80) = v0 c
          ∧ r.2.mem ((c.tc : Thread Cert.KernelIdeal.nD Cert.KernelIdeal.τ).loc Cert.KernelIdeal.main_v81) = v1 c
          ∧ r.2.mem ((c.tc : Thread Cert.KernelIdeal.nD Cert.KernelIdeal.τ).loc Cert.KernelIdeal.main_v82) = v2 c
          ∧ r.2.mem ((c.tc : Thread Cert.KernelIdeal.nD Cert.KernelIdeal.τ).loc Cert.KernelIdeal.main_v83) = v3 c
          ∧ r.2.mem ((c.tc : Thread Cert.KernelIdeal.nD Cert.KernelIdeal.τ).loc Cert.KernelIdeal.main_v84) = v4 c
          ∧ r.2.mem ((c.tc : Thread Cert.KernelIdeal.nD Cert.KernelIdeal.τ).loc Cert.KernelIdeal.main_v85) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v196) = v0 c
          ∧ r.2.mem ((c.tc : Thread Cert.ReferenceIdeal.nD Cert.ReferenceIdeal.τ).loc Cert.ReferenceIdeal.main_v219) = v1 c
          ∧ r.2.mem ((c.tc : Thread Cert.ReferenceIdeal.nD Cert.ReferenceIdeal.τ).loc Cert.ReferenceIdeal.main_v242) = v2 c
          ∧ r.2.mem ((c.tc : Thread Cert.ReferenceIdeal.nD Cert.ReferenceIdeal.τ).loc Cert.ReferenceIdeal.main_v95) = v3 c
          ∧ r.2.mem ((c.tc : Thread Cert.ReferenceIdeal.nD Cert.ReferenceIdeal.τ).loc Cert.ReferenceIdeal.main_v118) = v4 c
          ∧ r.2.mem ((c.tc : Thread Cert.ReferenceIdeal.nD Cert.ReferenceIdeal.τ).loc Cert.ReferenceIdeal.main_v141) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x1 : Shape := ⟨2, ![128, 1]⟩
abbrev S64x512 : Shape := ⟨2, ![64, 512]⟩
abbrev S512 : Shape := ⟨1, ![512]⟩
abbrev S512x768 : Shape := ⟨2, ![512, 768]⟩
abbrev S768 : Shape := ⟨1, ![768]⟩
abbrev S768x1536 : Shape := ⟨2, ![768, 1536]⟩
abbrev S1536 : Shape := ⟨1, ![1536]⟩
abbrev S128x768 : Shape := ⟨2, ![128, 768]⟩
abbrev S128x1536 : Shape := ⟨2, ![128, 1536]⟩
abbrev S64x1 : Shape := ⟨2, ![64, 1]⟩
abbrev S64x768 : Shape := ⟨2, ![64, 768]⟩
abbrev S64x1536 : Shape := ⟨2, ![64, 1536]⟩
abbrev S1x32 : Shape := ⟨2, ![1, 32]⟩
abbrev S64x32 : Shape := ⟨2, ![64, 32]⟩
abbrev S32x512 : Shape := ⟨2, ![32, 512]⟩
abbrev S1x512 : Shape := ⟨2, ![1, 512]⟩
abbrev S64 : Shape := ⟨1, ![64]⟩
abbrev S1x768 : Shape := ⟨2, ![1, 768]⟩
abbrev S1x1536 : Shape := ⟨2, ![1, 1536]⟩
abbrev S128x512 : Shape := ⟨2, ![128, 512]⟩
abbrev S128x16x32 : Shape := ⟨3, ![128, 16, 32]⟩
abbrev S32x16x128 : Shape := ⟨3, ![32, 16, 128]⟩
abbrev S32x2048 : Shape := ⟨2, ![32, 2048]⟩
abbrev S128x256 : Shape := ⟨2, ![128, 256]⟩
abbrev S128x8x32 : Shape := ⟨3, ![128, 8, 32]⟩
abbrev S32x8x128 : Shape := ⟨3, ![32, 8, 128]⟩
abbrev S32x1024 : Shape := ⟨2, ![32, 1024]⟩
abbrev S32x3072 : Shape := ⟨2, ![32, 3072]⟩
abbrev S128x32x16 : Shape := ⟨3, ![128, 32, 16]⟩
abbrev S16x32x128 : Shape := ⟨3, ![16, 32, 128]⟩
abbrev S16x4096 : Shape := ⟨2, ![16, 4096]⟩
abbrev S128x16x16 : Shape := ⟨3, ![128, 16, 16]⟩
abbrev S16x16x128 : Shape := ⟨3, ![16, 16, 128]⟩
abbrev S16x2048 : Shape := ⟨2, ![16, 2048]⟩
abbrev S16x6144 : Shape := ⟨2, ![16, 6144]⟩
abbrev S512x64 : Shape := ⟨2, ![512, 64]⟩
abbrev S1024x64 : Shape := ⟨2, ![1024, 64]⟩
abbrev S_ : Shape := ⟨0, ![]⟩
abbrev S127 : Shape := ⟨1, ![127]⟩
abbrev S1 : Shape := ⟨1, ![1]⟩
abbrev S128 : Shape := ⟨1, ![128]⟩
abbrev S128x128 : Shape := ⟨2, ![128, 128]⟩
abbrev S63 : Shape := ⟨1, ![63]⟩
abbrev S64x64 : Shape := ⟨2, ![64, 64]⟩
abbrev S4096x1 : Shape := ⟨2, ![4096, 1]⟩
abbrev S32 : Shape := ⟨1, ![32]⟩
abbrev S4096x32 : Shape := ⟨2, ![4096, 32]⟩
abbrev S31 : Shape := ⟨1, ![31]⟩
abbrev S32x32 : Shape := ⟨2, ![32, 32]⟩
abbrev S1024x1 : Shape := ⟨2, ![1024, 1]⟩
abbrev S16 : Shape := ⟨1, ![16]⟩
abbrev S1x16 : Shape := ⟨2, ![1, 16]⟩
abbrev S1024x16 : Shape := ⟨2, ![1024, 16]⟩
abbrev S1024x128x128 : Shape := ⟨3, ![1024, 128, 128]⟩
abbrev S16x64x64x128 : Shape := ⟨4, ![16, 64, 64, 128]⟩
abbrev S32x32x32x128 : Shape := ⟨4, ![32, 32, 32, 128]⟩
abbrev S512x128x128 : Shape := ⟨3, ![512, 128, 128]⟩
abbrev S8x64x64x128 : Shape := ⟨4, ![8, 64, 64, 128]⟩
abbrev S16x32x32x128 : Shape := ⟨4, ![16, 32, 32, 128]⟩
abbrev S256x32 : Shape := ⟨2, ![256, 32]⟩
abbrev S64x16 : Shape := ⟨2, ![64, 16]⟩
abbrev S32x64 : Shape := ⟨2, ![32, 64]⟩
abbrev S64x128x128 : Shape := ⟨3, ![64, 128, 128]⟩
abbrev S16x4x64x128 : Shape := ⟨4, ![16, 4, 64, 128]⟩
abbrev S32x2x32x128 : Shape := ⟨4, ![32, 2, 32, 128]⟩
abbrev S32x128x128 : Shape := ⟨3, ![32, 128, 128]⟩
abbrev S8x4x64x128 : Shape := ⟨4, ![8, 4, 64, 128]⟩
abbrev S16x2x32x128 : Shape := ⟨4, ![16, 2, 32, 128]⟩
abbrev S64x1x64 : Shape := ⟨3, ![64, 1, 64]⟩
abbrev S64x8x64 : Shape := ⟨3, ![64, 8, 64]⟩
abbrev S8x128 : Shape := ⟨2, ![8, 128]⟩
abbrev S1x8x128 : Shape := ⟨3, ![1, 8, 128]⟩
abbrev S64x8x128 : Shape := ⟨3, ![64, 8, 128]⟩
abbrev S64x8x128x1 : Shape := ⟨4, ![64, 8, 128, 1]⟩
abbrev S32x1x64 : Shape := ⟨3, ![32, 1, 64]⟩
abbrev S32x8x64 : Shape := ⟨3, ![32, 8, 64]⟩
abbrev S32x8x128x1 : Shape := ⟨4, ![32, 8, 128, 1]⟩
abbrev S256x2048 : Shape := ⟨2, ![256, 2048]⟩
abbrev S256x128 : Shape := ⟨2, ![256, 128]⟩
abbrev S4x64x128 : Shape := ⟨3, ![4, 64, 128]⟩
abbrev S1x4x64x128 : Shape := ⟨4, ![1, 4, 64, 128]⟩
abbrev S64x4096 : Shape := ⟨2, ![64, 4096]⟩
abbrev S64x128 : Shape := ⟨2, ![64, 128]⟩
abbrev S2x32x128 : Shape := ⟨3, ![2, 32, 128]⟩
abbrev S1x2x32x128 : Shape := ⟨4, ![1, 2, 32, 128]⟩
abbrev S256x1024 : Shape := ⟨2, ![256, 1024]⟩
abbrev S64x2048 : Shape := ⟨2, ![64, 2048]⟩
abbrev S128x8x128x128 : Shape := ⟨4, ![128, 8, 128, 128]⟩
abbrev S128x16x64x64 : Shape := ⟨4, ![128, 16, 64, 64]⟩
abbrev S128x32x32x32 : Shape := ⟨4, ![128, 32, 32, 32]⟩
abbrev S128x4x128x128 : Shape := ⟨4, ![128, 4, 128, 128]⟩
abbrev S128x8x64x64 : Shape := ⟨4, ![128, 8, 64, 64]⟩
abbrev S128x16x32x32 : Shape := ⟨4, ![128, 16, 32, 32]⟩

abbrev nBuf : Space → Nat
  | .hbm => 180
  | .vmem => 41
  | .smem => 0
  | _ => 0

abbrev hbmTy0_0 (i : Nat) : BufTy := match i % 128 with
  | 0 => ⟨S128x1, .f32⟩
  | 1 => ⟨S64x512, .f32⟩
  | 2 => ⟨S512, .f32⟩
  | 3 => ⟨S512, .f32⟩
  | 4 => ⟨S512, .f32⟩
  | 5 => ⟨S512x768, .f32⟩
  | 6 => ⟨S768, .f32⟩
  | 7 => ⟨S768, .f32⟩
  | 8 => ⟨S768, .f32⟩
  | 9 => ⟨S768x1536, .f32⟩
  | 10 => ⟨S1536, .f32⟩
  | 11 => ⟨S1536, .f32⟩
  | 12 => ⟨S1536, .f32⟩
  | 13 => ⟨S128x768, .f32⟩
  | 14 => ⟨S128x1536, .f32⟩
  | 15 => ⟨S128x512, .f32⟩
  | 16 => ⟨S128x16x32, .f32⟩
  | 17 => ⟨S32x16x128, .f32⟩
  | 18 => ⟨S32x2048, .f32⟩
  | 19 => ⟨S128x256, .f32⟩
  | 20 => ⟨S128x8x32, .f32⟩
  | 21 => ⟨S32x8x128, .f32⟩
  | 22 => ⟨S32x1024, .f32⟩
  | 23 => ⟨S32x3072, .f32⟩
  | 24 => ⟨S128x512, .f32⟩
  | 25 => ⟨S128x32x16, .f32⟩
  | 26 => ⟨S16x32x128, .f32⟩
  | 27 => ⟨S16x4096, .f32⟩
  | 28 => ⟨S128x256, .f32⟩
  | 29 => ⟨S128x16x16, .f32⟩
  | 30 => ⟨S16x16x128, .f32⟩
  | 31 => ⟨S16x2048, .f32⟩
  | 32 => ⟨S16x6144, .f32⟩
  | 33 => ⟨S128x256, .f32⟩
  | 34 => ⟨S512x64, .f32⟩
  | 35 => ⟨S128x512, .f32⟩
  | 36 => ⟨S1024x64, .f32⟩
  | 37 => ⟨S_, .f32⟩
  | 38 => ⟨S_, .f32⟩
  | 39 => ⟨S_, .f32⟩
  | 40 => ⟨S_, .f32⟩
  | 41 => ⟨S_, .f32⟩
  | 42 => ⟨S_, .f32⟩
  | 43 => ⟨S_, .f32⟩
  | 44 => ⟨S127, .f32⟩
  | 45 => ⟨S_, .f32⟩
  | 46 => ⟨S127, .f32⟩
  | 47 => ⟨S127, .f32⟩
  | 48 => ⟨S1, .f32⟩
  | 49 => ⟨S_, .f32⟩
  | 50 => ⟨S127, .f32⟩
  | 51 => ⟨S127, .f32⟩
  | 52 => ⟨S127, .f32⟩
  | 53 => ⟨S127, .f32⟩
  | 54 => ⟨S1, .f32⟩
  | 55 => ⟨S127, .f32⟩
  | 56 => ⟨S127, .f32⟩
  | 57 => ⟨S127, .f32⟩
  | 58 => ⟨S1, .f32⟩
  | 59 => ⟨S128, .f32⟩
  | 60 => ⟨S128x128, .f32⟩
  | 61 => ⟨S128x128, .f32⟩
  | 62 => ⟨S128x128, .f32⟩
  | 63 => ⟨S128x128, .f32⟩
  | 64 => ⟨S128x128, .f32⟩
  | 65 => ⟨S128x128, .f32⟩
  | 66 => ⟨S_, .f32⟩
  | 67 => ⟨S_, .f32⟩
  | 68 => ⟨S_, .f32⟩
  | 69 => ⟨S_, .f32⟩
  | 70 => ⟨S_, .f32⟩
  | 71 => ⟨S_, .f32⟩
  | 72 => ⟨S128x128, .f32⟩
  | 73 => ⟨S128x128, .f32⟩
  | 74 => ⟨S128x128, .f32⟩
  | 75 => ⟨S128x128, .i32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S63, .f32⟩
  | 84 => ⟨S_, .f32⟩
  | 85 => ⟨S63, .f32⟩
  | 86 => ⟨S63, .f32⟩
  | 87 => ⟨S1, .f32⟩
  | 88 => ⟨S_, .f32⟩
  | 89 => ⟨S63, .f32⟩
  | 90 => ⟨S63, .f32⟩
  | 91 => ⟨S63, .f32⟩
  | 92 => ⟨S63, .f32⟩
  | 93 => ⟨S1, .f32⟩
  | 94 => ⟨S63, .f32⟩
  | 95 => ⟨S63, .f32⟩
  | 96 => ⟨S63, .f32⟩
  | 97 => ⟨S1, .f32⟩
  | 98 => ⟨S64, .f32⟩
  | 99 => ⟨S64x64, .f32⟩
  | 100 => ⟨S64x64, .f32⟩
  | 101 => ⟨S64x64, .f32⟩
  | 102 => ⟨S64x64, .f32⟩
  | 103 => ⟨S64x64, .f32⟩
  | 104 => ⟨S64x64, .f32⟩
  | 105 => ⟨S_, .f32⟩
  | 106 => ⟨S_, .f32⟩
  | 107 => ⟨S_, .f32⟩
  | 108 => ⟨S_, .f32⟩
  | 109 => ⟨S_, .f32⟩
  | 110 => ⟨S_, .f32⟩
  | 111 => ⟨S64x64, .f32⟩
  | 112 => ⟨S64x64, .f32⟩
  | 113 => ⟨S64x64, .f32⟩
  | 114 => ⟨S64x64, .i32⟩
  | 115 => ⟨S4096x1, .i32⟩
  | 116 => ⟨S32, .i32⟩
  | 117 => ⟨S1x32, .i32⟩
  | 118 => ⟨S4096x32, .i32⟩
  | 119 => ⟨S4096x32, .i32⟩
  | 120 => ⟨S4096x32, .i1⟩
  | 121 => ⟨S4096x32, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S128x1, .f32⟩

abbrev hbmTy0_1 (i : Nat) : BufTy := match i % 128 with
  | 0 => ⟨S_, .f32⟩
  | 1 => ⟨S31, .f32⟩
  | 2 => ⟨S_, .f32⟩
  | 3 => ⟨S31, .f32⟩
  | 4 => ⟨S31, .f32⟩
  | 5 => ⟨S1, .f32⟩
  | 6 => ⟨S_, .f32⟩
  | 7 => ⟨S31, .f32⟩
  | 8 => ⟨S31, .f32⟩
  | 9 => ⟨S31, .f32⟩
  | 10 => ⟨S31, .f32⟩
  | 11 => ⟨S1, .f32⟩
  | 12 => ⟨S31, .f32⟩
  | 13 => ⟨S31, .f32⟩
  | 14 => ⟨S31, .f32⟩
  | 15 => ⟨S1, .f32⟩
  | 16 => ⟨S32, .f32⟩
  | 17 => ⟨S32x32, .f32⟩
  | 18 => ⟨S32x32, .f32⟩
  | 19 => ⟨S32x32, .f32⟩
  | 20 => ⟨S32x32, .f32⟩
  | 21 => ⟨S32x32, .f32⟩
  | 22 => ⟨S32x32, .f32⟩
  | 23 => ⟨S_, .f32⟩
  | 24 => ⟨S_, .f32⟩
  | 25 => ⟨S_, .f32⟩
  | 26 => ⟨S_, .f32⟩
  | 27 => ⟨S_, .f32⟩
  | 28 => ⟨S_, .f32⟩
  | 29 => ⟨S32x32, .f32⟩
  | 30 => ⟨S32x32, .f32⟩
  | 31 => ⟨S32x32, .f32⟩
  | 32 => ⟨S32x32, .i32⟩
  | 33 => ⟨S1024x1, .i32⟩
  | 34 => ⟨S16, .i32⟩
  | 35 => ⟨S1x16, .i32⟩
  | 36 => ⟨S1024x16, .i32⟩
  | 37 => ⟨S1024x16, .i32⟩
  | 38 => ⟨S1024x16, .i1⟩
  | 39 => ⟨S1024x16, .f32⟩
  | 40 => ⟨S1024x128x128, .f32⟩
  | 41 => ⟨S16x64x64x128, .f32⟩
  | 42 => ⟨S32x32x32x128, .f32⟩
  | 43 => ⟨S512x128x128, .f32⟩
  | 44 => ⟨S8x64x64x128, .f32⟩
  | 45 => ⟨S16x32x32x128, .f32⟩
  | 46 => ⟨S128x8x128x128, .f32⟩
  | 47 => ⟨S128x16x64x64, .f32⟩
  | 48 => ⟨S128x32x32x32, .f32⟩
  | 49 => ⟨S128x4x128x128, .f32⟩
  | 50 => ⟨S128x8x64x64, .f32⟩
  | 51 => ⟨S128x16x32x32, .f32⟩
  | _ => ⟨S128x1, .f32⟩

abbrev hbmTy (i : Nat) : BufTy := match i / 128 with
  | 0 => hbmTy0_0 i
  | 1 => hbmTy0_1 i
  | _ => ⟨S128x1, .f32⟩

abbrev bufTy : (tb : Table) → Fin (tcTables nBuf tb) → BufTy
  | .hbm, ⟨i, _⟩ => hbmTy i
  | .local _ .vmem, ⟨0, _⟩ => ⟨S64x1, .f32⟩
  | .local _ .vmem, ⟨1, _⟩ => ⟨S64x1, .f32⟩
  | .local _ .vmem, ⟨2, _⟩ => ⟨S64x512, .f32⟩
  | .local _ .vmem, ⟨3, _⟩ => ⟨S512, .f32⟩
  | .local _ .vmem, ⟨4, _⟩ => ⟨S512, .f32⟩
  | .local _ .vmem, ⟨5, _⟩ => ⟨S512, .f32⟩
  | .local _ .vmem, ⟨6, _⟩ => ⟨S512x768, .f32⟩
  | .local _ .vmem, ⟨7, _⟩ => ⟨S768, .f32⟩
  | .local _ .vmem, ⟨8, _⟩ => ⟨S768, .f32⟩
  | .local _ .vmem, ⟨9, _⟩ => ⟨S768, .f32⟩
  | .local _ .vmem, ⟨10, _⟩ => ⟨S768x1536, .f32⟩
  | .local _ .vmem, ⟨11, _⟩ => ⟨S1536, .f32⟩
  | .local _ .vmem, ⟨12, _⟩ => ⟨S1536, .f32⟩
  | .local _ .vmem, ⟨13, _⟩ => ⟨S1536, .f32⟩
  | .local _ .vmem, ⟨14, _⟩ => ⟨S64x768, .f32⟩
  | .local _ .vmem, ⟨15, _⟩ => ⟨S64x768, .f32⟩
  | .local _ .vmem, ⟨16, _⟩ => ⟨S64x1536, .f32⟩
  | .local _ .vmem, ⟨17, _⟩ => ⟨S64x1536, .f32⟩
  | .local _ .vmem, ⟨18, _⟩ => ⟨S128x128, .i32⟩
  | .local _ .vmem, ⟨19, _⟩ => ⟨S256x32, .f32⟩
  | .local _ .vmem, ⟨20, _⟩ => ⟨S256x32, .f32⟩
  | .local _ .vmem, ⟨21, _⟩ => ⟨S64x16, .f32⟩
  | .local _ .vmem, ⟨22, _⟩ => ⟨S64x16, .f32⟩
  | .local _ .vmem, ⟨23, _⟩ => ⟨S64x64, .f32⟩
  | .local _ .vmem, ⟨24, _⟩ => ⟨S64x64, .f32⟩
  | .local _ .vmem, ⟨25, _⟩ => ⟨S32x3072, .f32⟩
  | .local _ .vmem, ⟨26, _⟩ => ⟨S16x6144, .f32⟩
  | .local _ .vmem, ⟨27, _⟩ => ⟨S32x64, .f32⟩
  | .local _ .vmem, ⟨28, _⟩ => ⟨S32x64, .f32⟩
  | .local _ .vmem, ⟨29, _⟩ => ⟨S64x128x128, .f32⟩
  | .local _ .vmem, ⟨30, _⟩ => ⟨S64x128x128, .f32⟩
  | .local _ .vmem, ⟨31, _⟩ => ⟨S16x4x64x128, .f32⟩
  | .local _ .vmem, ⟨32, _⟩ => ⟨S16x4x64x128, .f32⟩
  | .local _ .vmem, ⟨33, _⟩ => ⟨S32x2x32x128, .f32⟩
  | .local _ .vmem, ⟨34, _⟩ => ⟨S32x2x32x128, .f32⟩
  | .local _ .vmem, ⟨35, _⟩ => ⟨S32x128x128, .f32⟩
  | .local _ .vmem, ⟨36, _⟩ => ⟨S32x128x128, .f32⟩
  | .local _ .vmem, ⟨37, _⟩ => ⟨S8x4x64x128, .f32⟩
  | .local _ .vmem, ⟨38, _⟩ => ⟨S8x4x64x128, .f32⟩
  | .local _ .vmem, ⟨39, _⟩ => ⟨S16x2x32x128, .f32⟩
  | .local _ .vmem, ⟨40, _⟩ => ⟨S16x2x32x128, .f32⟩
  | _, _ => ⟨S128x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0_0 : Ref sig .tc := ⟨.hbm, 13, rfl⟩
abbrev main_v0_1 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst : Ref sig .tc := ⟨.hbm, 37, rfl⟩
abbrev main_cst_0 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_call0_cst : Ref sig .tc := ⟨.hbm, 42, rfl⟩
abbrev main_call0_v3 : Ref sig .tc := ⟨.hbm, 43, rfl⟩
abbrev main_call0_v4 : Ref sig .tc := ⟨.hbm, 44, rfl⟩
abbrev main_call0_cst_0 : Ref sig .tc := ⟨.hbm, 45, rfl⟩
abbrev main_call0_v5 : Ref sig .tc := ⟨.hbm, 46, rfl⟩
abbrev main_call0_v6 : Ref sig .tc := ⟨.hbm, 47, rfl⟩
abbrev main_call0_v7 : Ref sig .tc := ⟨.hbm, 48, rfl⟩
abbrev main_call0_cst_1 : Ref sig .tc := ⟨.hbm, 49, rfl⟩
abbrev main_call0_v8 : Ref sig .tc := ⟨.hbm, 50, rfl⟩
abbrev main_call0_v9 : Ref sig .tc := ⟨.hbm, 51, rfl⟩
abbrev main_call0_v10 : Ref sig .tc := ⟨.hbm, 52, rfl⟩
abbrev main_call0_v11 : Ref sig .tc := ⟨.hbm, 53, rfl⟩
abbrev main_call0_v12 : Ref sig .tc := ⟨.hbm, 54, rfl⟩
abbrev main_call0_v13 : Ref sig .tc := ⟨.hbm, 55, rfl⟩
abbrev main_call0_v14 : Ref sig .tc := ⟨.hbm, 56, rfl⟩
abbrev main_call0_v15 : Ref sig .tc := ⟨.hbm, 57, rfl⟩
abbrev main_call0_v16 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_cst_1 : Ref sig .tc := ⟨.hbm, 66, rfl⟩
abbrev main_v30 : Ref sig .tc := ⟨.hbm, 67, rfl⟩
abbrev main_cst_2 : Ref sig .tc := ⟨.hbm, 68, rfl⟩
abbrev main_v31 : Ref sig .tc := ⟨.hbm, 69, rfl⟩
abbrev main_cst_3 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_cst_4 : Ref sig .tc := ⟨.hbm, 76, rfl⟩
abbrev main_cst_5 : Ref sig .tc := ⟨.hbm, 77, rfl⟩
abbrev main_call1_v0 : Ref sig .tc := ⟨.hbm, 78, rfl⟩
abbrev main_call1_v1 : Ref sig .tc := ⟨.hbm, 79, rfl⟩
abbrev main_call1_v2 : Ref sig .tc := ⟨.hbm, 80, rfl⟩
abbrev main_call1_cst : Ref sig .tc := ⟨.hbm, 81, rfl⟩
abbrev main_call1_v3 : Ref sig .tc := ⟨.hbm, 82, rfl⟩
abbrev main_call1_v4 : Ref sig .tc := ⟨.hbm, 83, rfl⟩
abbrev main_call1_cst_0 : Ref sig .tc := ⟨.hbm, 84, rfl⟩
abbrev main_call1_v5 : Ref sig .tc := ⟨.hbm, 85, rfl⟩
abbrev main_call1_v6 : Ref sig .tc := ⟨.hbm, 86, rfl⟩
abbrev main_call1_v7 : Ref sig .tc := ⟨.hbm, 87, rfl⟩
abbrev main_call1_cst_1 : Ref sig .tc := ⟨.hbm, 88, rfl⟩
abbrev main_call1_v8 : Ref sig .tc := ⟨.hbm, 89, rfl⟩
abbrev main_call1_v9 : Ref sig .tc := ⟨.hbm, 90, rfl⟩
abbrev main_call1_v10 : Ref sig .tc := ⟨.hbm, 91, rfl⟩
abbrev main_call1_v11 : Ref sig .tc := ⟨.hbm, 92, rfl⟩
abbrev main_call1_v12 : Ref sig .tc := ⟨.hbm, 93, rfl⟩
abbrev main_call1_v13 : Ref sig .tc := ⟨.hbm, 94, rfl⟩
abbrev main_call1_v14 : Ref sig .tc := ⟨.hbm, 95, rfl⟩
abbrev main_call1_v15 : Ref sig .tc := ⟨.hbm, 96, rfl⟩
abbrev main_call1_v16 : Ref sig .tc := ⟨.hbm, 97, rfl⟩
abbrev main_v37 : Ref sig .tc := ⟨.hbm, 98, rfl⟩
abbrev main_v38 : Ref sig .tc := ⟨.hbm, 99, rfl⟩
abbrev main_v39 : Ref sig .tc := ⟨.hbm, 100, rfl⟩
abbrev main_v40 : Ref sig .tc := ⟨.hbm, 101, rfl⟩
abbrev main_v41 : Ref sig .tc := ⟨.hbm, 102, rfl⟩
abbrev main_v42 : Ref sig .tc := ⟨.hbm, 103, rfl⟩
abbrev main_v43 : Ref sig .tc := ⟨.hbm, 104, rfl⟩
abbrev main_cst_6 : Ref sig .tc := ⟨.hbm, 105, rfl⟩
abbrev main_v44 : Ref sig .tc := ⟨.hbm, 106, rfl⟩
abbrev main_cst_7 : Ref sig .tc := ⟨.hbm, 107, rfl⟩
abbrev main_v45 : Ref sig .tc := ⟨.hbm, 108, rfl⟩
abbrev main_cst_8 : Ref sig .tc := ⟨.hbm, 109, rfl⟩
abbrev main_v46 : Ref sig .tc := ⟨.hbm, 110, rfl⟩
abbrev main_v47 : Ref sig .tc := ⟨.hbm, 111, rfl⟩
abbrev main_v48 : Ref sig .tc := ⟨.hbm, 112, rfl⟩
abbrev main_v49 : Ref sig .tc := ⟨.hbm, 113, rfl⟩
abbrev main_v50 : Ref sig .tc := ⟨.hbm, 114, rfl⟩
abbrev main_v51 : Ref sig .tc := ⟨.hbm, 115, rfl⟩
abbrev main_v52 : Ref sig .tc := ⟨.hbm, 116, rfl⟩
abbrev main_v53 : Ref sig .tc := ⟨.hbm, 117, rfl⟩
abbrev main_v54 : Ref sig .tc := ⟨.hbm, 118, rfl⟩
abbrev main_v55 : Ref sig .tc := ⟨.hbm, 119, rfl⟩
abbrev main_v56 : Ref sig .tc := ⟨.hbm, 120, rfl⟩
abbrev main_v57 : Ref sig .tc := ⟨.hbm, 121, rfl⟩
abbrev main_cst_9 : Ref sig .tc := ⟨.hbm, 122, rfl⟩
abbrev main_cst_10 : Ref sig .tc := ⟨.hbm, 123, rfl⟩
abbrev main_call2_v0 : Ref sig .tc := ⟨.hbm, 124, rfl⟩
abbrev main_call2_v1 : Ref sig .tc := ⟨.hbm, 125, rfl⟩
abbrev main_call2_v2 : Ref sig .tc := ⟨.hbm, 126, rfl⟩
abbrev main_call2_cst : Ref sig .tc := ⟨.hbm, 127, rfl⟩
abbrev main_call2_v3 : Ref sig .tc := ⟨.hbm, 128, rfl⟩
abbrev main_call2_v4 : Ref sig .tc := ⟨.hbm, 129, rfl⟩
abbrev main_call2_cst_0 : Ref sig .tc := ⟨.hbm, 130, rfl⟩
abbrev main_call2_v5 : Ref sig .tc := ⟨.hbm, 131, rfl⟩
abbrev main_call2_v6 : Ref sig .tc := ⟨.hbm, 132, rfl⟩
abbrev main_call2_v7 : Ref sig .tc := ⟨.hbm, 133, rfl⟩
abbrev main_call2_cst_1 : Ref sig .tc := ⟨.hbm, 134, rfl⟩
abbrev main_call2_v8 : Ref sig .tc := ⟨.hbm, 135, rfl⟩
abbrev main_call2_v9 : Ref sig .tc := ⟨.hbm, 136, rfl⟩
abbrev main_call2_v10 : Ref sig .tc := ⟨.hbm, 137, rfl⟩
abbrev main_call2_v11 : Ref sig .tc := ⟨.hbm, 138, rfl⟩
abbrev main_call2_v12 : Ref sig .tc := ⟨.hbm, 139, rfl⟩
abbrev main_call2_v13 : Ref sig .tc := ⟨.hbm, 140, rfl⟩
abbrev main_call2_v14 : Ref sig .tc := ⟨.hbm, 141, rfl⟩
abbrev main_call2_v15 : Ref sig .tc := ⟨.hbm, 142, rfl⟩
abbrev main_call2_v16 : Ref sig .tc := ⟨.hbm, 143, rfl⟩
abbrev main_v58 : Ref sig .tc := ⟨.hbm, 144, rfl⟩
abbrev main_v59 : Ref sig .tc := ⟨.hbm, 145, rfl⟩
abbrev main_v60 : Ref sig .tc := ⟨.hbm, 146, rfl⟩
abbrev main_v61 : Ref sig .tc := ⟨.hbm, 147, rfl⟩
abbrev main_v62 : Ref sig .tc := ⟨.hbm, 148, rfl⟩
abbrev main_v63 : Ref sig .tc := ⟨.hbm, 149, rfl⟩
abbrev main_v64 : Ref sig .tc := ⟨.hbm, 150, rfl⟩
abbrev main_cst_11 : Ref sig .tc := ⟨.hbm, 151, rfl⟩
abbrev main_v65 : Ref sig .tc := ⟨.hbm, 152, rfl⟩
abbrev main_cst_12 : Ref sig .tc := ⟨.hbm, 153, rfl⟩
abbrev main_v66 : Ref sig .tc := ⟨.hbm, 154, rfl⟩
abbrev main_cst_13 : Ref sig .tc := ⟨.hbm, 155, rfl⟩
abbrev main_v67 : Ref sig .tc := ⟨.hbm, 156, rfl⟩
abbrev main_v68 : Ref sig .tc := ⟨.hbm, 157, rfl⟩
abbrev main_v69 : Ref sig .tc := ⟨.hbm, 158, rfl⟩
abbrev main_v70 : Ref sig .tc := ⟨.hbm, 159, rfl⟩
abbrev main_v71 : Ref sig .tc := ⟨.hbm, 160, rfl⟩
abbrev main_v72 : Ref sig .tc := ⟨.hbm, 161, rfl⟩
abbrev main_v73 : Ref sig .tc := ⟨.hbm, 162, rfl⟩
abbrev main_v74 : Ref sig .tc := ⟨.hbm, 163, rfl⟩
abbrev main_v75 : Ref sig .tc := ⟨.hbm, 164, rfl⟩
abbrev main_v76 : Ref sig .tc := ⟨.hbm, 165, rfl⟩
abbrev main_v77 : Ref sig .tc := ⟨.hbm, 166, rfl⟩
abbrev main_v78 : Ref sig .tc := ⟨.hbm, 167, rfl⟩
abbrev main_v79_0 : Ref sig .tc := ⟨.hbm, 168, rfl⟩
abbrev main_v79_1 : Ref sig .tc := ⟨.hbm, 169, rfl⟩
abbrev main_v79_2 : Ref sig .tc := ⟨.hbm, 170, rfl⟩
abbrev main_v79_3 : Ref sig .tc := ⟨.hbm, 171, rfl⟩
abbrev main_v79_4 : Ref sig .tc := ⟨.hbm, 172, rfl⟩
abbrev main_v79_5 : Ref sig .tc := ⟨.hbm, 173, rfl⟩
abbrev main_v80 : Ref sig .tc := ⟨.hbm, 174, rfl⟩
abbrev main_v81 : Ref sig .tc := ⟨.hbm, 175, rfl⟩
abbrev main_v82 : Ref sig .tc := ⟨.hbm, 176, rfl⟩
abbrev main_v83 : Ref sig .tc := ⟨.hbm, 177, rfl⟩
abbrev main_v84 : Ref sig .tc := ⟨.hbm, 178, rfl⟩
abbrev main_v85 : Ref sig .tc := ⟨.hbm, 179, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_stg14_0 : Ref sig .tc := ⟨.vmem, 16, rfl⟩
abbrev cc0_stg14_1 : Ref sig .tc := ⟨.vmem, 17, rfl⟩
abbrev cc1_stg0_0 : Ref sig .tc := ⟨.vmem, 18, rfl⟩
abbrev cc1_stg1_0 : Ref sig .tc := ⟨.vmem, 19, rfl⟩
abbrev cc1_stg1_1 : Ref sig .tc := ⟨.vmem, 20, rfl⟩
abbrev cc1_stg2_0 : Ref sig .tc := ⟨.vmem, 21, rfl⟩
abbrev cc1_stg2_1 : Ref sig .tc := ⟨.vmem, 22, rfl⟩
abbrev cc1_stg3_0 : Ref sig .tc := ⟨.vmem, 23, rfl⟩
abbrev cc1_stg3_1 : Ref sig .tc := ⟨.vmem, 24, rfl⟩
abbrev cc1_stg4_0 : Ref sig .tc := ⟨.vmem, 25, rfl⟩
abbrev cc1_stg5_0 : Ref sig .tc := ⟨.vmem, 26, rfl⟩
abbrev cc1_stg6_0 : Ref sig .tc := ⟨.vmem, 27, rfl⟩
abbrev cc1_stg6_1 : Ref sig .tc := ⟨.vmem, 28, rfl⟩
abbrev cc1_stg7_0 : Ref sig .tc := ⟨.vmem, 29, rfl⟩
abbrev cc1_stg7_1 : Ref sig .tc := ⟨.vmem, 30, rfl⟩
abbrev cc1_stg8_0 : Ref sig .tc := ⟨.vmem, 31, rfl⟩
abbrev cc1_stg8_1 : Ref sig .tc := ⟨.vmem, 32, rfl⟩
abbrev cc1_stg9_0 : Ref sig .tc := ⟨.vmem, 33, rfl⟩
abbrev cc1_stg9_1 : Ref sig .tc := ⟨.vmem, 34, rfl⟩
abbrev cc1_stg10_0 : Ref sig .tc := ⟨.vmem, 35, rfl⟩
abbrev cc1_stg10_1 : Ref sig .tc := ⟨.vmem, 36, rfl⟩
abbrev cc1_stg11_0 : Ref sig .tc := ⟨.vmem, 37, rfl⟩
abbrev cc1_stg11_1 : Ref sig .tc := ⟨.vmem, 38, rfl⟩
abbrev cc1_stg12_0 : Ref sig .tc := ⟨.vmem, 39, rfl⟩
abbrev cc1_stg12_1 : Ref sig .tc := ⟨.vmem, 40, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15
abbrev cc0_sem14_0 : DmaSem sig := 16
abbrev cc0_sem14_1 : DmaSem sig := 17
abbrev cc1_sem0_0 : DmaSem sig := 18
abbrev cc1_sem1_0 : DmaSem sig := 19
abbrev cc1_sem1_1 : DmaSem sig := 20
abbrev cc1_sem2_0 : DmaSem sig := 21
abbrev cc1_sem2_1 : DmaSem sig := 22
abbrev cc1_sem3_0 : DmaSem sig := 23
abbrev cc1_sem3_1 : DmaSem sig := 24
abbrev cc1_sem4_0 : DmaSem sig := 25
abbrev cc1_sem5_0 : DmaSem sig := 26
abbrev cc1_sem6_0 : DmaSem sig := 27
abbrev cc1_sem6_1 : DmaSem sig := 28
abbrev cc1_sem7_0 : DmaSem sig := 29
abbrev cc1_sem7_1 : DmaSem sig := 30
abbrev cc1_sem8_0 : DmaSem sig := 31
abbrev cc1_sem8_1 : DmaSem sig := 32
abbrev cc1_sem9_0 : DmaSem sig := 33
abbrev cc1_sem9_1 : DmaSem sig := 34
abbrev cc1_sem10_0 : DmaSem sig := 35
abbrev cc1_sem10_1 : DmaSem sig := 36
abbrev cc1_sem11_0 : DmaSem sig := 37
abbrev cc1_sem11_1 : DmaSem sig := 38
abbrev cc1_sem12_0 : DmaSem sig := 39
abbrev cc1_sem12_1 : DmaSem sig := 40

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S768x1536 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1536 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1536 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1536 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S64x768 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S64x1536 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_8 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc1_transform_9 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_11 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc1_transform_12 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage1_0 : Fin 1 → Memref sig .tc .vmem S128x128 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S256x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S64x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S64x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S32x3072 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S16x6144 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S32x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S64x128x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S16x4x64x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S32x2x32x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S32x128x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S8x4x64x128 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S16x2x32x128 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]
-- ==== ReferenceIdeal.lean ====
abbrev S128x1 : Shape := ⟨2, ![128, 1]⟩
abbrev S64x512 : Shape := ⟨2, ![64, 512]⟩
abbrev S512 : Shape := ⟨1, ![512]⟩
abbrev S512x768 : Shape := ⟨2, ![512, 768]⟩
abbrev S768 : Shape := ⟨1, ![768]⟩
abbrev S768x1536 : Shape := ⟨2, ![768, 1536]⟩
abbrev S1536 : Shape := ⟨1, ![1536]⟩
abbrev S_ : Shape := ⟨0, ![]⟩
abbrev S31 : Shape := ⟨1, ![31]⟩
abbrev S1 : Shape := ⟨1, ![1]⟩
abbrev S32 : Shape := ⟨1, ![32]⟩
abbrev S1x32 : Shape := ⟨2, ![1, 32]⟩
abbrev S128x32 : Shape := ⟨2, ![128, 32]⟩
abbrev S128x64 : Shape := ⟨2, ![128, 64]⟩
abbrev S128x512 : Shape := ⟨2, ![128, 512]⟩
abbrev S1x512 : Shape := ⟨2, ![1, 512]⟩
abbrev S128 : Shape := ⟨1, ![128]⟩
abbrev S128x768 : Shape := ⟨2, ![128, 768]⟩
abbrev S1x768 : Shape := ⟨2, ![1, 768]⟩
abbrev S128x256 : Shape := ⟨2, ![128, 256]⟩
abbrev S128x4x64 : Shape := ⟨3, ![128, 4, 64]⟩
abbrev S127 : Shape := ⟨1, ![127]⟩
abbrev S128x128 : Shape := ⟨2, ![128, 128]⟩
abbrev S128x128x1 : Shape := ⟨3, ![128, 128, 1]⟩
abbrev S1x1x1 : Shape := ⟨3, ![1, 1, 1]⟩
abbrev S128x4x128x128 : Shape := ⟨4, ![128, 4, 128, 128]⟩
abbrev S1x1x128x128 : Shape := ⟨4, ![1, 1, 128, 128]⟩
abbrev S128x8x32 : Shape := ⟨3, ![128, 8, 32]⟩
abbrev S63 : Shape := ⟨1, ![63]⟩
abbrev S64 : Shape := ⟨1, ![64]⟩
abbrev S64x64 : Shape := ⟨2, ![64, 64]⟩
abbrev S64x64x1 : Shape := ⟨3, ![64, 64, 1]⟩
abbrev S128x8x64x64 : Shape := ⟨4, ![128, 8, 64, 64]⟩
abbrev S1x1x64x64 : Shape := ⟨4, ![1, 1, 64, 64]⟩
abbrev S128x16x16 : Shape := ⟨3, ![128, 16, 16]⟩
abbrev S32x32 : Shape := ⟨2, ![32, 32]⟩
abbrev S32x32x1 : Shape := ⟨3, ![32, 32, 1]⟩
abbrev S128x16x32x32 : Shape := ⟨4, ![128, 16, 32, 32]⟩
abbrev S1x1x32x32 : Shape := ⟨4, ![1, 1, 32, 32]⟩
abbrev S128x1536 : Shape := ⟨2, ![128, 1536]⟩
abbrev S1x1536 : Shape := ⟨2, ![1, 1536]⟩
abbrev S128x8x64 : Shape := ⟨3, ![128, 8, 64]⟩
abbrev S128x8x128x128 : Shape := ⟨4, ![128, 8, 128, 128]⟩
abbrev S128x16x32 : Shape := ⟨3, ![128, 16, 32]⟩
abbrev S128x16x64x64 : Shape := ⟨4, ![128, 16, 64, 64]⟩
abbrev S128x32x16 : Shape := ⟨3, ![128, 32, 16]⟩
abbrev S128x32x32x32 : Shape := ⟨4, ![128, 32, 32, 32]⟩

abbrev nBuf : Space → Nat
  | .hbm => 625
  | .vmem => 0
  | .smem => 0
  | _ => 0

abbrev hbmTy0_0 (i : Nat) : BufTy := match i % 128 with
  | 0 => ⟨S128x1, .f32⟩
  | 1 => ⟨S64x512, .f32⟩
  | 2 => ⟨S512, .f32⟩
  | 3 => ⟨S512, .f32⟩
  | 4 => ⟨S512, .f32⟩
  | 5 => ⟨S512x768, .f32⟩
  | 6 => ⟨S768, .f32⟩
  | 7 => ⟨S768, .f32⟩
  | 8 => ⟨S768, .f32⟩
  | 9 => ⟨S768x1536, .f32⟩
  | 10 => ⟨S1536, .f32⟩
  | 11 => ⟨S1536, .f32⟩
  | 12 => ⟨S1536, .f32⟩
  | 13 => ⟨S_, .f32⟩
  | 14 => ⟨S_, .i32⟩
  | 15 => ⟨S_, .f32⟩
  | 16 => ⟨S_, .f32⟩
  | 17 => ⟨S_, .f32⟩
  | 18 => ⟨S_, .f32⟩
  | 19 => ⟨S_, .f32⟩
  | 20 => ⟨S31, .f32⟩
  | 21 => ⟨S_, .f32⟩
  | 22 => ⟨S31, .f32⟩
  | 23 => ⟨S31, .f32⟩
  | 24 => ⟨S1, .f32⟩
  | 25 => ⟨S_, .f32⟩
  | 26 => ⟨S31, .f32⟩
  | 27 => ⟨S31, .f32⟩
  | 28 => ⟨S31, .f32⟩
  | 29 => ⟨S31, .f32⟩
  | 30 => ⟨S1, .f32⟩
  | 31 => ⟨S31, .f32⟩
  | 32 => ⟨S31, .f32⟩
  | 33 => ⟨S31, .f32⟩
  | 34 => ⟨S1, .f32⟩
  | 35 => ⟨S32, .f32⟩
  | 36 => ⟨S_, .f32⟩
  | 37 => ⟨S32, .f32⟩
  | 38 => ⟨S32, .f32⟩
  | 39 => ⟨S_, .f32⟩
  | 40 => ⟨S32, .f32⟩
  | 41 => ⟨S32, .f32⟩
  | 42 => ⟨S1x32, .f32⟩
  | 43 => ⟨S128x32, .f32⟩
  | 44 => ⟨S128x32, .f32⟩
  | 45 => ⟨S128x32, .f32⟩
  | 46 => ⟨S128x32, .f32⟩
  | 47 => ⟨S128x32, .f32⟩
  | 48 => ⟨S128x64, .f32⟩
  | 49 => ⟨S128x512, .f32⟩
  | 50 => ⟨S1x512, .f32⟩
  | 51 => ⟨S128x512, .f32⟩
  | 52 => ⟨S128x512, .f32⟩
  | 53 => ⟨S_, .f32⟩
  | 54 => ⟨S128, .f32⟩
  | 55 => ⟨S128x1, .f32⟩
  | 56 => ⟨S_, .f32⟩
  | 57 => ⟨S128x1, .f32⟩
  | 58 => ⟨S128x1, .f32⟩
  | 59 => ⟨S128x512, .f32⟩
  | 60 => ⟨S128x512, .f32⟩
  | 61 => ⟨S128x512, .f32⟩
  | 62 => ⟨S_, .f32⟩
  | 63 => ⟨S128, .f32⟩
  | 64 => ⟨S128x1, .f32⟩
  | 65 => ⟨S_, .f32⟩
  | 66 => ⟨S128x1, .f32⟩
  | 67 => ⟨S128x1, .f32⟩
  | 68 => ⟨S128x512, .f32⟩
  | 69 => ⟨S128x512, .f32⟩
  | 70 => ⟨S_, .f32⟩
  | 71 => ⟨S128x1, .f32⟩
  | 72 => ⟨S128x1, .f32⟩
  | 73 => ⟨S128x1, .f32⟩
  | 74 => ⟨S128x512, .f32⟩
  | 75 => ⟨S128x512, .f32⟩
  | 76 => ⟨S1x512, .f32⟩
  | 77 => ⟨S128x512, .f32⟩
  | 78 => ⟨S128x512, .f32⟩
  | 79 => ⟨S1x512, .f32⟩
  | 80 => ⟨S128x512, .f32⟩
  | 81 => ⟨S128x512, .f32⟩
  | 82 => ⟨S128x512, .f32⟩
  | 83 => ⟨S128x768, .f32⟩
  | 84 => ⟨S1x768, .f32⟩
  | 85 => ⟨S128x768, .f32⟩
  | 86 => ⟨S128x768, .f32⟩
  | 87 => ⟨S_, .f32⟩
  | 88 => ⟨S128, .f32⟩
  | 89 => ⟨S128x1, .f32⟩
  | 90 => ⟨S_, .f32⟩
  | 91 => ⟨S128x1, .f32⟩
  | 92 => ⟨S128x1, .f32⟩
  | 93 => ⟨S128x768, .f32⟩
  | 94 => ⟨S128x768, .f32⟩
  | 95 => ⟨S128x768, .f32⟩
  | 96 => ⟨S_, .f32⟩
  | 97 => ⟨S128, .f32⟩
  | 98 => ⟨S128x1, .f32⟩
  | 99 => ⟨S_, .f32⟩
  | 100 => ⟨S128x1, .f32⟩
  | 101 => ⟨S128x1, .f32⟩
  | 102 => ⟨S128x768, .f32⟩
  | 103 => ⟨S128x768, .f32⟩
  | 104 => ⟨S_, .f32⟩
  | 105 => ⟨S128x1, .f32⟩
  | 106 => ⟨S128x1, .f32⟩
  | 107 => ⟨S128x1, .f32⟩
  | 108 => ⟨S128x768, .f32⟩
  | 109 => ⟨S128x768, .f32⟩
  | 110 => ⟨S1x768, .f32⟩
  | 111 => ⟨S128x768, .f32⟩
  | 112 => ⟨S128x768, .f32⟩
  | 113 => ⟨S1x768, .f32⟩
  | 114 => ⟨S128x768, .f32⟩
  | 115 => ⟨S128x768, .f32⟩
  | 116 => ⟨S128x768, .f32⟩
  | 117 => ⟨S128x256, .f32⟩
  | 118 => ⟨S128x256, .f32⟩
  | 119 => ⟨S128x256, .f32⟩
  | 120 => ⟨S128x4x64, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S128x1, .f32⟩

abbrev hbmTy0_1 (i : Nat) : BufTy := match i % 128 with
  | 0 => ⟨S127, .f32⟩
  | 1 => ⟨S_, .f32⟩
  | 2 => ⟨S127, .f32⟩
  | 3 => ⟨S127, .f32⟩
  | 4 => ⟨S1, .f32⟩
  | 5 => ⟨S_, .f32⟩
  | 6 => ⟨S127, .f32⟩
  | 7 => ⟨S127, .f32⟩
  | 8 => ⟨S127, .f32⟩
  | 9 => ⟨S127, .f32⟩
  | 10 => ⟨S1, .f32⟩
  | 11 => ⟨S127, .f32⟩
  | 12 => ⟨S127, .f32⟩
  | 13 => ⟨S127, .f32⟩
  | 14 => ⟨S1, .f32⟩
  | 15 => ⟨S128, .f32⟩
  | 16 => ⟨S128x128, .f32⟩
  | 17 => ⟨S128x128, .f32⟩
  | 18 => ⟨S128x128, .f32⟩
  | 19 => ⟨S128x128, .f32⟩
  | 20 => ⟨S128x128, .f32⟩
  | 21 => ⟨S128x128, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S128x128, .f32⟩
  | 29 => ⟨S128x128, .f32⟩
  | 30 => ⟨S128x128, .f32⟩
  | 31 => ⟨S128x128, .i32⟩
  | 32 => ⟨S_, .i32⟩
  | 33 => ⟨S128x128, .i32⟩
  | 34 => ⟨S128x128, .i1⟩
  | 35 => ⟨S128x128, .f32⟩
  | 36 => ⟨S_, .i32⟩
  | 37 => ⟨S_, .i32⟩
  | 38 => ⟨S_, .i32⟩
  | 39 => ⟨S128x128, .i32⟩
  | 40 => ⟨S128x128, .i32⟩
  | 41 => ⟨S_, .i32⟩
  | 42 => ⟨S128x128, .i32⟩
  | 43 => ⟨S128x128, .i32⟩
  | 44 => ⟨S_, .i32⟩
  | 45 => ⟨S128x128, .i32⟩
  | 46 => ⟨S128x128, .i1⟩
  | 47 => ⟨S_, .i32⟩
  | 48 => ⟨S128x128, .i32⟩
  | 49 => ⟨S128x128, .i32⟩
  | 50 => ⟨S128x128, .i32⟩
  | 51 => ⟨S128x128x1, .i32⟩
  | 52 => ⟨S1, .i32⟩
  | 53 => ⟨S_, .i32⟩
  | 54 => ⟨S128x128x1, .i32⟩
  | 55 => ⟨S128x128x1, .i1⟩
  | 56 => ⟨S1x1x1, .i32⟩
  | 57 => ⟨S128x128x1, .i32⟩
  | 58 => ⟨S128x128x1, .i1⟩
  | 59 => ⟨S128x128x1, .i1⟩
  | 60 => ⟨S_, .i1⟩
  | 61 => ⟨S128x128, .i1⟩
  | 62 => ⟨S128x4x128x128, .f32⟩
  | 63 => ⟨S128x4x128x128, .i1⟩
  | 64 => ⟨S_, .f32⟩
  | 65 => ⟨S128x4x128x128, .f32⟩
  | 66 => ⟨S128x4x128x128, .f32⟩
  | 67 => ⟨S1x1x128x128, .f32⟩
  | 68 => ⟨S128x4x128x128, .f32⟩
  | 69 => ⟨S128x4x128x128, .f32⟩
  | 70 => ⟨S128x8x32, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S63, .f32⟩
  | 79 => ⟨S_, .f32⟩
  | 80 => ⟨S63, .f32⟩
  | 81 => ⟨S63, .f32⟩
  | 82 => ⟨S1, .f32⟩
  | 83 => ⟨S_, .f32⟩
  | 84 => ⟨S63, .f32⟩
  | 85 => ⟨S63, .f32⟩
  | 86 => ⟨S63, .f32⟩
  | 87 => ⟨S63, .f32⟩
  | 88 => ⟨S1, .f32⟩
  | 89 => ⟨S63, .f32⟩
  | 90 => ⟨S63, .f32⟩
  | 91 => ⟨S63, .f32⟩
  | 92 => ⟨S1, .f32⟩
  | 93 => ⟨S64, .f32⟩
  | 94 => ⟨S64x64, .f32⟩
  | 95 => ⟨S64x64, .f32⟩
  | 96 => ⟨S64x64, .f32⟩
  | 97 => ⟨S64x64, .f32⟩
  | 98 => ⟨S64x64, .f32⟩
  | 99 => ⟨S64x64, .f32⟩
  | 100 => ⟨S_, .f32⟩
  | 101 => ⟨S_, .f32⟩
  | 102 => ⟨S_, .f32⟩
  | 103 => ⟨S_, .f32⟩
  | 104 => ⟨S_, .f32⟩
  | 105 => ⟨S_, .f32⟩
  | 106 => ⟨S64x64, .f32⟩
  | 107 => ⟨S64x64, .f32⟩
  | 108 => ⟨S64x64, .f32⟩
  | 109 => ⟨S64x64, .i32⟩
  | 110 => ⟨S_, .i32⟩
  | 111 => ⟨S64x64, .i32⟩
  | 112 => ⟨S64x64, .i1⟩
  | 113 => ⟨S64x64, .f32⟩
  | 114 => ⟨S_, .i32⟩
  | 115 => ⟨S_, .i32⟩
  | 116 => ⟨S_, .i32⟩
  | 117 => ⟨S64x64, .i32⟩
  | 118 => ⟨S64x64, .i32⟩
  | 119 => ⟨S_, .i32⟩
  | 120 => ⟨S64x64, .i32⟩
  | 121 => ⟨S64x64, .i32⟩
  | 122 => ⟨S_, .i32⟩
  | 123 => ⟨S64x64, .i32⟩
  | 124 => ⟨S64x64, .i1⟩
  | 125 => ⟨S_, .i32⟩
  | 126 => ⟨S64x64, .i32⟩
  | 127 => ⟨S64x64, .i32⟩
  | _ => ⟨S128x1, .f32⟩

abbrev hbmTy0_2 (i : Nat) : BufTy := match i % 128 with
  | 0 => ⟨S64x64, .i32⟩
  | 1 => ⟨S64x64x1, .i32⟩
  | 2 => ⟨S1, .i32⟩
  | 3 => ⟨S_, .i32⟩
  | 4 => ⟨S64x64x1, .i32⟩
  | 5 => ⟨S64x64x1, .i1⟩
  | 6 => ⟨S1x1x1, .i32⟩
  | 7 => ⟨S64x64x1, .i32⟩
  | 8 => ⟨S64x64x1, .i1⟩
  | 9 => ⟨S64x64x1, .i1⟩
  | 10 => ⟨S_, .i1⟩
  | 11 => ⟨S64x64, .i1⟩
  | 12 => ⟨S128x8x64x64, .f32⟩
  | 13 => ⟨S128x8x64x64, .i1⟩
  | 14 => ⟨S_, .f32⟩
  | 15 => ⟨S128x8x64x64, .f32⟩
  | 16 => ⟨S128x8x64x64, .f32⟩
  | 17 => ⟨S1x1x64x64, .f32⟩
  | 18 => ⟨S128x8x64x64, .f32⟩
  | 19 => ⟨S128x8x64x64, .f32⟩
  | 20 => ⟨S128x16x16, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S31, .f32⟩
  | 29 => ⟨S_, .f32⟩
  | 30 => ⟨S31, .f32⟩
  | 31 => ⟨S31, .f32⟩
  | 32 => ⟨S1, .f32⟩
  | 33 => ⟨S_, .f32⟩
  | 34 => ⟨S31, .f32⟩
  | 35 => ⟨S31, .f32⟩
  | 36 => ⟨S31, .f32⟩
  | 37 => ⟨S31, .f32⟩
  | 38 => ⟨S1, .f32⟩
  | 39 => ⟨S31, .f32⟩
  | 40 => ⟨S31, .f32⟩
  | 41 => ⟨S31, .f32⟩
  | 42 => ⟨S1, .f32⟩
  | 43 => ⟨S32, .f32⟩
  | 44 => ⟨S32x32, .f32⟩
  | 45 => ⟨S32x32, .f32⟩
  | 46 => ⟨S32x32, .f32⟩
  | 47 => ⟨S32x32, .f32⟩
  | 48 => ⟨S32x32, .f32⟩
  | 49 => ⟨S32x32, .f32⟩
  | 50 => ⟨S_, .f32⟩
  | 51 => ⟨S_, .f32⟩
  | 52 => ⟨S_, .f32⟩
  | 53 => ⟨S_, .f32⟩
  | 54 => ⟨S_, .f32⟩
  | 55 => ⟨S_, .f32⟩
  | 56 => ⟨S32x32, .f32⟩
  | 57 => ⟨S32x32, .f32⟩
  | 58 => ⟨S32x32, .f32⟩
  | 59 => ⟨S32x32, .i32⟩
  | 60 => ⟨S_, .i32⟩
  | 61 => ⟨S32x32, .i32⟩
  | 62 => ⟨S32x32, .i1⟩
  | 63 => ⟨S32x32, .f32⟩
  | 64 => ⟨S_, .i32⟩
  | 65 => ⟨S_, .i32⟩
  | 66 => ⟨S_, .i32⟩
  | 67 => ⟨S32x32, .i32⟩
  | 68 => ⟨S32x32, .i32⟩
  | 69 => ⟨S_, .i32⟩
  | 70 => ⟨S32x32, .i32⟩
  | 71 => ⟨S32x32, .i32⟩
  | 72 => ⟨S_, .i32⟩
  | 73 => ⟨S32x32, .i32⟩
  | 74 => ⟨S32x32, .i1⟩
  | 75 => ⟨S_, .i32⟩
  | 76 => ⟨S32x32, .i32⟩
  | 77 => ⟨S32x32, .i32⟩
  | 78 => ⟨S32x32, .i32⟩
  | 79 => ⟨S32x32x1, .i32⟩
  | 80 => ⟨S1, .i32⟩
  | 81 => ⟨S_, .i32⟩
  | 82 => ⟨S32x32x1, .i32⟩
  | 83 => ⟨S32x32x1, .i1⟩
  | 84 => ⟨S1x1x1, .i32⟩
  | 85 => ⟨S32x32x1, .i32⟩
  | 86 => ⟨S32x32x1, .i1⟩
  | 87 => ⟨S32x32x1, .i1⟩
  | 88 => ⟨S_, .i1⟩
  | 89 => ⟨S32x32, .i1⟩
  | 90 => ⟨S128x16x32x32, .f32⟩
  | 91 => ⟨S128x16x32x32, .i1⟩
  | 92 => ⟨S_, .f32⟩
  | 93 => ⟨S128x16x32x32, .f32⟩
  | 94 => ⟨S128x16x32x32, .f32⟩
  | 95 => ⟨S1x1x32x32, .f32⟩
  | 96 => ⟨S128x16x32x32, .f32⟩
  | 97 => ⟨S128x16x32x32, .f32⟩
  | 98 => ⟨S128x1536, .f32⟩
  | 99 => ⟨S1x1536, .f32⟩
  | 100 => ⟨S128x1536, .f32⟩
  | 101 => ⟨S128x1536, .f32⟩
  | 102 => ⟨S_, .f32⟩
  | 103 => ⟨S128, .f32⟩
  | 104 => ⟨S128x1, .f32⟩
  | 105 => ⟨S_, .f32⟩
  | 106 => ⟨S128x1, .f32⟩
  | 107 => ⟨S128x1, .f32⟩
  | 108 => ⟨S128x1536, .f32⟩
  | 109 => ⟨S128x1536, .f32⟩
  | 110 => ⟨S128x1536, .f32⟩
  | 111 => ⟨S_, .f32⟩
  | 112 => ⟨S128, .f32⟩
  | 113 => ⟨S128x1, .f32⟩
  | 114 => ⟨S_, .f32⟩
  | 115 => ⟨S128x1, .f32⟩
  | 116 => ⟨S128x1, .f32⟩
  | 117 => ⟨S128x1536, .f32⟩
  | 118 => ⟨S128x1536, .f32⟩
  | 119 => ⟨S_, .f32⟩
  | 120 => ⟨S128x1, .f32⟩
  | 121 => ⟨S128x1, .f32⟩
  | 122 => ⟨S128x1, .f32⟩
  | 123 => ⟨S128x1536, .f32⟩
  | 124 => ⟨S128x1536, .f32⟩
  | 125 => ⟨S1x1536, .f32⟩
  | 126 => ⟨S128x1536, .f32⟩
  | 127 => ⟨S128x1536, .f32⟩
  | _ => ⟨S128x1, .f32⟩

abbrev hbmTy0_3 (i : Nat) : BufTy := match i % 128 with
  | 0 => ⟨S1x1536, .f32⟩
  | 1 => ⟨S128x1536, .f32⟩
  | 2 => ⟨S128x1536, .f32⟩
  | 3 => ⟨S128x1536, .f32⟩
  | 4 => ⟨S128x512, .f32⟩
  | 5 => ⟨S128x512, .f32⟩
  | 6 => ⟨S128x512, .f32⟩
  | 7 => ⟨S128x8x64, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S127, .f32⟩
  | 16 => ⟨S_, .f32⟩
  | 17 => ⟨S127, .f32⟩
  | 18 => ⟨S127, .f32⟩
  | 19 => ⟨S1, .f32⟩
  | 20 => ⟨S_, .f32⟩
  | 21 => ⟨S127, .f32⟩
  | 22 => ⟨S127, .f32⟩
  | 23 => ⟨S127, .f32⟩
  | 24 => ⟨S127, .f32⟩
  | 25 => ⟨S1, .f32⟩
  | 26 => ⟨S127, .f32⟩
  | 27 => ⟨S127, .f32⟩
  | 28 => ⟨S127, .f32⟩
  | 29 => ⟨S1, .f32⟩
  | 30 => ⟨S128, .f32⟩
  | 31 => ⟨S128x128, .f32⟩
  | 32 => ⟨S128x128, .f32⟩
  | 33 => ⟨S128x128, .f32⟩
  | 34 => ⟨S128x128, .f32⟩
  | 35 => ⟨S128x128, .f32⟩
  | 36 => ⟨S128x128, .f32⟩
  | 37 => ⟨S_, .f32⟩
  | 38 => ⟨S_, .f32⟩
  | 39 => ⟨S_, .f32⟩
  | 40 => ⟨S_, .f32⟩
  | 41 => ⟨S_, .f32⟩
  | 42 => ⟨S_, .f32⟩
  | 43 => ⟨S128x128, .f32⟩
  | 44 => ⟨S128x128, .f32⟩
  | 45 => ⟨S128x128, .f32⟩
  | 46 => ⟨S128x128, .i32⟩
  | 47 => ⟨S_, .i32⟩
  | 48 => ⟨S128x128, .i32⟩
  | 49 => ⟨S128x128, .i1⟩
  | 50 => ⟨S128x128, .f32⟩
  | 51 => ⟨S_, .i32⟩
  | 52 => ⟨S_, .i32⟩
  | 53 => ⟨S_, .i32⟩
  | 54 => ⟨S128x128, .i32⟩
  | 55 => ⟨S128x128, .i32⟩
  | 56 => ⟨S_, .i32⟩
  | 57 => ⟨S128x128, .i32⟩
  | 58 => ⟨S128x128, .i32⟩
  | 59 => ⟨S_, .i32⟩
  | 60 => ⟨S128x128, .i32⟩
  | 61 => ⟨S128x128, .i1⟩
  | 62 => ⟨S_, .i32⟩
  | 63 => ⟨S128x128, .i32⟩
  | 64 => ⟨S128x128, .i32⟩
  | 65 => ⟨S128x128, .i32⟩
  | 66 => ⟨S128x128x1, .i32⟩
  | 67 => ⟨S1, .i32⟩
  | 68 => ⟨S_, .i32⟩
  | 69 => ⟨S128x128x1, .i32⟩
  | 70 => ⟨S128x128x1, .i1⟩
  | 71 => ⟨S1x1x1, .i32⟩
  | 72 => ⟨S128x128x1, .i32⟩
  | 73 => ⟨S128x128x1, .i1⟩
  | 74 => ⟨S128x128x1, .i1⟩
  | 75 => ⟨S_, .i1⟩
  | 76 => ⟨S128x128, .i1⟩
  | 77 => ⟨S128x8x128x128, .f32⟩
  | 78 => ⟨S128x8x128x128, .i1⟩
  | 79 => ⟨S_, .f32⟩
  | 80 => ⟨S128x8x128x128, .f32⟩
  | 81 => ⟨S128x8x128x128, .f32⟩
  | 82 => ⟨S1x1x128x128, .f32⟩
  | 83 => ⟨S128x8x128x128, .f32⟩
  | 84 => ⟨S128x8x128x128, .f32⟩
  | 85 => ⟨S128x16x32, .f32⟩
  | 86 => ⟨S_, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S63, .f32⟩
  | 94 => ⟨S_, .f32⟩
  | 95 => ⟨S63, .f32⟩
  | 96 => ⟨S63, .f32⟩
  | 97 => ⟨S1, .f32⟩
  | 98 => ⟨S_, .f32⟩
  | 99 => ⟨S63, .f32⟩
  | 100 => ⟨S63, .f32⟩
  | 101 => ⟨S63, .f32⟩
  | 102 => ⟨S63, .f32⟩
  | 103 => ⟨S1, .f32⟩
  | 104 => ⟨S63, .f32⟩
  | 105 => ⟨S63, .f32⟩
  | 106 => ⟨S63, .f32⟩
  | 107 => ⟨S1, .f32⟩
  | 108 => ⟨S64, .f32⟩
  | 109 => ⟨S64x64, .f32⟩
  | 110 => ⟨S64x64, .f32⟩
  | 111 => ⟨S64x64, .f32⟩
  | 112 => ⟨S64x64, .f32⟩
  | 113 => ⟨S64x64, .f32⟩
  | 114 => ⟨S64x64, .f32⟩
  | 115 => ⟨S_, .f32⟩
  | 116 => ⟨S_, .f32⟩
  | 117 => ⟨S_, .f32⟩
  | 118 => ⟨S_, .f32⟩
  | 119 => ⟨S_, .f32⟩
  | 120 => ⟨S_, .f32⟩
  | 121 => ⟨S64x64, .f32⟩
  | 122 => ⟨S64x64, .f32⟩
  | 123 => ⟨S64x64, .f32⟩
  | 124 => ⟨S64x64, .i32⟩
  | 125 => ⟨S_, .i32⟩
  | 126 => ⟨S64x64, .i32⟩
  | 127 => ⟨S64x64, .i1⟩
  | _ => ⟨S128x1, .f32⟩

abbrev hbmTy0_4 (i : Nat) : BufTy := match i % 128 with
  | 0 => ⟨S64x64, .f32⟩
  | 1 => ⟨S_, .i32⟩
  | 2 => ⟨S_, .i32⟩
  | 3 => ⟨S_, .i32⟩
  | 4 => ⟨S64x64, .i32⟩
  | 5 => ⟨S64x64, .i32⟩
  | 6 => ⟨S_, .i32⟩
  | 7 => ⟨S64x64, .i32⟩
  | 8 => ⟨S64x64, .i32⟩
  | 9 => ⟨S_, .i32⟩
  | 10 => ⟨S64x64, .i32⟩
  | 11 => ⟨S64x64, .i1⟩
  | 12 => ⟨S_, .i32⟩
  | 13 => ⟨S64x64, .i32⟩
  | 14 => ⟨S64x64, .i32⟩
  | 15 => ⟨S64x64, .i32⟩
  | 16 => ⟨S64x64x1, .i32⟩
  | 17 => ⟨S1, .i32⟩
  | 18 => ⟨S_, .i32⟩
  | 19 => ⟨S64x64x1, .i32⟩
  | 20 => ⟨S64x64x1, .i1⟩
  | 21 => ⟨S1x1x1, .i32⟩
  | 22 => ⟨S64x64x1, .i32⟩
  | 23 => ⟨S64x64x1, .i1⟩
  | 24 => ⟨S64x64x1, .i1⟩
  | 25 => ⟨S_, .i1⟩
  | 26 => ⟨S64x64, .i1⟩
  | 27 => ⟨S128x16x64x64, .f32⟩
  | 28 => ⟨S128x16x64x64, .i1⟩
  | 29 => ⟨S_, .f32⟩
  | 30 => ⟨S128x16x64x64, .f32⟩
  | 31 => ⟨S128x16x64x64, .f32⟩
  | 32 => ⟨S1x1x64x64, .f32⟩
  | 33 => ⟨S128x16x64x64, .f32⟩
  | 34 => ⟨S128x16x64x64, .f32⟩
  | 35 => ⟨S128x32x16, .f32⟩
  | 36 => ⟨S_, .f32⟩
  | 37 => ⟨S_, .f32⟩
  | 38 => ⟨S_, .f32⟩
  | 39 => ⟨S_, .f32⟩
  | 40 => ⟨S_, .f32⟩
  | 41 => ⟨S_, .f32⟩
  | 42 => ⟨S_, .f32⟩
  | 43 => ⟨S31, .f32⟩
  | 44 => ⟨S_, .f32⟩
  | 45 => ⟨S31, .f32⟩
  | 46 => ⟨S31, .f32⟩
  | 47 => ⟨S1, .f32⟩
  | 48 => ⟨S_, .f32⟩
  | 49 => ⟨S31, .f32⟩
  | 50 => ⟨S31, .f32⟩
  | 51 => ⟨S31, .f32⟩
  | 52 => ⟨S31, .f32⟩
  | 53 => ⟨S1, .f32⟩
  | 54 => ⟨S31, .f32⟩
  | 55 => ⟨S31, .f32⟩
  | 56 => ⟨S31, .f32⟩
  | 57 => ⟨S1, .f32⟩
  | 58 => ⟨S32, .f32⟩
  | 59 => ⟨S32x32, .f32⟩
  | 60 => ⟨S32x32, .f32⟩
  | 61 => ⟨S32x32, .f32⟩
  | 62 => ⟨S32x32, .f32⟩
  | 63 => ⟨S32x32, .f32⟩
  | 64 => ⟨S32x32, .f32⟩
  | 65 => ⟨S_, .f32⟩
  | 66 => ⟨S_, .f32⟩
  | 67 => ⟨S_, .f32⟩
  | 68 => ⟨S_, .f32⟩
  | 69 => ⟨S_, .f32⟩
  | 70 => ⟨S_, .f32⟩
  | 71 => ⟨S32x32, .f32⟩
  | 72 => ⟨S32x32, .f32⟩
  | 73 => ⟨S32x32, .f32⟩
  | 74 => ⟨S32x32, .i32⟩
  | 75 => ⟨S_, .i32⟩
  | 76 => ⟨S32x32, .i32⟩
  | 77 => ⟨S32x32, .i1⟩
  | 78 => ⟨S32x32, .f32⟩
  | 79 => ⟨S_, .i32⟩
  | 80 => ⟨S_, .i32⟩
  | 81 => ⟨S_, .i32⟩
  | 82 => ⟨S32x32, .i32⟩
  | 83 => ⟨S32x32, .i32⟩
  | 84 => ⟨S_, .i32⟩
  | 85 => ⟨S32x32, .i32⟩
  | 86 => ⟨S32x32, .i32⟩
  | 87 => ⟨S_, .i32⟩
  | 88 => ⟨S32x32, .i32⟩
  | 89 => ⟨S32x32, .i1⟩
  | 90 => ⟨S_, .i32⟩
  | 91 => ⟨S32x32, .i32⟩
  | 92 => ⟨S32x32, .i32⟩
  | 93 => ⟨S32x32, .i32⟩
  | 94 => ⟨S32x32x1, .i32⟩
  | 95 => ⟨S1, .i32⟩
  | 96 => ⟨S_, .i32⟩
  | 97 => ⟨S32x32x1, .i32⟩
  | 98 => ⟨S32x32x1, .i1⟩
  | 99 => ⟨S1x1x1, .i32⟩
  | 100 => ⟨S32x32x1, .i32⟩
  | 101 => ⟨S32x32x1, .i1⟩
  | 102 => ⟨S32x32x1, .i1⟩
  | 103 => ⟨S_, .i1⟩
  | 104 => ⟨S32x32, .i1⟩
  | 105 => ⟨S128x32x32x32, .f32⟩
  | 106 => ⟨S128x32x32x32, .i1⟩
  | 107 => ⟨S_, .f32⟩
  | 108 => ⟨S128x32x32x32, .f32⟩
  | 109 => ⟨S128x32x32x32, .f32⟩
  | 110 => ⟨S1x1x32x32, .f32⟩
  | 111 => ⟨S128x32x32x32, .f32⟩
  | 112 => ⟨S128x32x32x32, .f32⟩
  | _ => ⟨S128x1, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S128x1, .f32⟩

abbrev bufTy : (tb : Table) → Fin (tcTables nBuf tb) → BufTy
  | .hbm, ⟨i, _⟩ => hbmTy i
  | _, _ => ⟨S128x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_c : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_cst : Ref sig .tc := ⟨.hbm, 18, rfl⟩
abbrev main_call0_v3 : Ref sig .tc := ⟨.hbm, 19, rfl⟩
abbrev main_call0_v4 : Ref sig .tc := ⟨.hbm, 20, rfl⟩
abbrev main_call0_cst_0 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_cst_1 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_v15 : Ref sig .tc := ⟨.hbm, 33, rfl⟩
abbrev main_call0_v16 : Ref sig .tc := ⟨.hbm, 34, rfl⟩
abbrev main_v0 : Ref sig .tc := ⟨.hbm, 35, rfl⟩
abbrev main_cst_0 : Ref sig .tc := ⟨.hbm, 36, rfl⟩
abbrev main_v1 : Ref sig .tc := ⟨.hbm, 37, rfl⟩
abbrev main_v2 : Ref sig .tc := ⟨.hbm, 38, rfl⟩
abbrev main_cst_1 : Ref sig .tc := ⟨.hbm, 39, rfl⟩
abbrev main_v3 : Ref sig .tc := ⟨.hbm, 40, rfl⟩
abbrev main_v4 : Ref sig .tc := ⟨.hbm, 41, rfl⟩
abbrev main_v5 : Ref sig .tc := ⟨.hbm, 42, rfl⟩
abbrev main_v6 : Ref sig .tc := ⟨.hbm, 43, rfl⟩
abbrev main_v7 : Ref sig .tc := ⟨.hbm, 44, rfl⟩
abbrev main_v8 : Ref sig .tc := ⟨.hbm, 45, rfl⟩
abbrev main_v9 : Ref sig .tc := ⟨.hbm, 46, rfl⟩
abbrev main_v10 : Ref sig .tc := ⟨.hbm, 47, rfl⟩
abbrev main_v11 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_cst_2 : Ref sig .tc := ⟨.hbm, 53, rfl⟩
abbrev main_v16 : Ref sig .tc := ⟨.hbm, 54, rfl⟩
abbrev main_v17 : Ref sig .tc := ⟨.hbm, 55, rfl⟩
abbrev main_cst_3 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_cst_4 : Ref sig .tc := ⟨.hbm, 62, rfl⟩
abbrev main_v23 : Ref sig .tc := ⟨.hbm, 63, rfl⟩
abbrev main_v24 : Ref sig .tc := ⟨.hbm, 64, rfl⟩
abbrev main_cst_5 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_cst_6 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_cst_7 : Ref sig .tc := ⟨.hbm, 87, rfl⟩
abbrev main_v45 : Ref sig .tc := ⟨.hbm, 88, rfl⟩
abbrev main_v46 : Ref sig .tc := ⟨.hbm, 89, rfl⟩
abbrev main_cst_8 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_cst_9 : Ref sig .tc := ⟨.hbm, 96, rfl⟩
abbrev main_v52 : Ref sig .tc := ⟨.hbm, 97, rfl⟩
abbrev main_v53 : Ref sig .tc := ⟨.hbm, 98, rfl⟩
abbrev main_cst_10 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_cst_11 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_cst_12 : Ref sig .tc := ⟨.hbm, 121, rfl⟩
abbrev main_cst_13 : Ref sig .tc := ⟨.hbm, 122, rfl⟩
abbrev main_call1_v0 : Ref sig .tc := ⟨.hbm, 123, rfl⟩
abbrev main_call1_v1 : Ref sig .tc := ⟨.hbm, 124, rfl⟩
abbrev main_call1_v2 : Ref sig .tc := ⟨.hbm, 125, rfl⟩
abbrev main_call1_cst : Ref sig .tc := ⟨.hbm, 126, rfl⟩
abbrev main_call1_v3 : Ref sig .tc := ⟨.hbm, 127, rfl⟩
abbrev main_call1_v4 : Ref sig .tc := ⟨.hbm, 128, rfl⟩
abbrev main_call1_cst_0 : Ref sig .tc := ⟨.hbm, 129, rfl⟩
abbrev main_call1_v5 : Ref sig .tc := ⟨.hbm, 130, rfl⟩
abbrev main_call1_v6 : Ref sig .tc := ⟨.hbm, 131, rfl⟩
abbrev main_call1_v7 : Ref sig .tc := ⟨.hbm, 132, rfl⟩
abbrev main_call1_cst_1 : Ref sig .tc := ⟨.hbm, 133, rfl⟩
abbrev main_call1_v8 : Ref sig .tc := ⟨.hbm, 134, rfl⟩
abbrev main_call1_v9 : Ref sig .tc := ⟨.hbm, 135, rfl⟩
abbrev main_call1_v10 : Ref sig .tc := ⟨.hbm, 136, rfl⟩
abbrev main_call1_v11 : Ref sig .tc := ⟨.hbm, 137, rfl⟩
abbrev main_call1_v12 : Ref sig .tc := ⟨.hbm, 138, rfl⟩
abbrev main_call1_v13 : Ref sig .tc := ⟨.hbm, 139, rfl⟩
abbrev main_call1_v14 : Ref sig .tc := ⟨.hbm, 140, rfl⟩
abbrev main_call1_v15 : Ref sig .tc := ⟨.hbm, 141, rfl⟩
abbrev main_call1_v16 : Ref sig .tc := ⟨.hbm, 142, rfl⟩
abbrev main_v74 : Ref sig .tc := ⟨.hbm, 143, rfl⟩
abbrev main_v75 : Ref sig .tc := ⟨.hbm, 144, rfl⟩
abbrev main_v76 : Ref sig .tc := ⟨.hbm, 145, rfl⟩
abbrev main_v77 : Ref sig .tc := ⟨.hbm, 146, rfl⟩
abbrev main_v78 : Ref sig .tc := ⟨.hbm, 147, rfl⟩
abbrev main_v79 : Ref sig .tc := ⟨.hbm, 148, rfl⟩
abbrev main_v80 : Ref sig .tc := ⟨.hbm, 149, rfl⟩
abbrev main_cst_14 : Ref sig .tc := ⟨.hbm, 150, rfl⟩
abbrev main_v81 : Ref sig .tc := ⟨.hbm, 151, rfl⟩
abbrev main_cst_15 : Ref sig .tc := ⟨.hbm, 152, rfl⟩
abbrev main_v82 : Ref sig .tc := ⟨.hbm, 153, rfl⟩
abbrev main_cst_16 : Ref sig .tc := ⟨.hbm, 154, rfl⟩
abbrev main_v83 : Ref sig .tc := ⟨.hbm, 155, rfl⟩
abbrev main_v84 : Ref sig .tc := ⟨.hbm, 156, rfl⟩
abbrev main_v85 : Ref sig .tc := ⟨.hbm, 157, rfl⟩
abbrev main_v86 : Ref sig .tc := ⟨.hbm, 158, rfl⟩
abbrev main_v87 : Ref sig .tc := ⟨.hbm, 159, rfl⟩
abbrev main_c_17 : Ref sig .tc := ⟨.hbm, 160, rfl⟩
abbrev main_v88 : Ref sig .tc := ⟨.hbm, 161, rfl⟩
abbrev main_v89 : Ref sig .tc := ⟨.hbm, 162, rfl⟩
abbrev main_v90 : Ref sig .tc := ⟨.hbm, 163, rfl⟩
abbrev main_c_18 : Ref sig .tc := ⟨.hbm, 164, rfl⟩
abbrev main_c_19 : Ref sig .tc := ⟨.hbm, 165, rfl⟩
abbrev main_call2_v0 : Ref sig .tc := ⟨.hbm, 166, rfl⟩
abbrev main_call2_v1 : Ref sig .tc := ⟨.hbm, 167, rfl⟩
abbrev main_call2_v2 : Ref sig .tc := ⟨.hbm, 168, rfl⟩
abbrev main_call2_v3 : Ref sig .tc := ⟨.hbm, 169, rfl⟩
abbrev main_call2_v4 : Ref sig .tc := ⟨.hbm, 170, rfl⟩
abbrev main_v91 : Ref sig .tc := ⟨.hbm, 171, rfl⟩
abbrev main_call3_c : Ref sig .tc := ⟨.hbm, 172, rfl⟩
abbrev main_call3_v0 : Ref sig .tc := ⟨.hbm, 173, rfl⟩
abbrev main_call3_v1 : Ref sig .tc := ⟨.hbm, 174, rfl⟩
abbrev main_call3_c_0 : Ref sig .tc := ⟨.hbm, 175, rfl⟩
abbrev main_call3_v2 : Ref sig .tc := ⟨.hbm, 176, rfl⟩
abbrev main_call3_v3 : Ref sig .tc := ⟨.hbm, 177, rfl⟩
abbrev main_call3_v4 : Ref sig .tc := ⟨.hbm, 178, rfl⟩
abbrev main_call3_v5 : Ref sig .tc := ⟨.hbm, 179, rfl⟩
abbrev main_call3_c_1 : Ref sig .tc := ⟨.hbm, 180, rfl⟩
abbrev main_call3_c_2 : Ref sig .tc := ⟨.hbm, 181, rfl⟩
abbrev main_call3_v6 : Ref sig .tc := ⟨.hbm, 182, rfl⟩
abbrev main_call3_v7 : Ref sig .tc := ⟨.hbm, 183, rfl⟩
abbrev main_call3_v8 : Ref sig .tc := ⟨.hbm, 184, rfl⟩
abbrev main_call3_v9 : Ref sig .tc := ⟨.hbm, 185, rfl⟩
abbrev main_call3_v10 : Ref sig .tc := ⟨.hbm, 186, rfl⟩
abbrev main_call3_v11 : Ref sig .tc := ⟨.hbm, 187, rfl⟩
abbrev main_call3_c_3 : Ref sig .tc := ⟨.hbm, 188, rfl⟩
abbrev main_call3_v12 : Ref sig .tc := ⟨.hbm, 189, rfl⟩
abbrev main_call3_v13 : Ref sig .tc := ⟨.hbm, 190, rfl⟩
abbrev main_call3_v14 : Ref sig .tc := ⟨.hbm, 191, rfl⟩
abbrev main_call3_cst : Ref sig .tc := ⟨.hbm, 192, rfl⟩
abbrev main_call3_v15 : Ref sig .tc := ⟨.hbm, 193, rfl⟩
abbrev main_v92 : Ref sig .tc := ⟨.hbm, 194, rfl⟩
abbrev main_v93 : Ref sig .tc := ⟨.hbm, 195, rfl⟩
abbrev main_v94 : Ref sig .tc := ⟨.hbm, 196, rfl⟩
abbrev main_v95 : Ref sig .tc := ⟨.hbm, 197, rfl⟩
abbrev main_v96 : Ref sig .tc := ⟨.hbm, 198, rfl⟩
abbrev main_cst_20 : Ref sig .tc := ⟨.hbm, 199, rfl⟩
abbrev main_cst_21 : Ref sig .tc := ⟨.hbm, 200, rfl⟩
abbrev main_call4_v0 : Ref sig .tc := ⟨.hbm, 201, rfl⟩
abbrev main_call4_v1 : Ref sig .tc := ⟨.hbm, 202, rfl⟩
abbrev main_call4_v2 : Ref sig .tc := ⟨.hbm, 203, rfl⟩
abbrev main_call4_cst : Ref sig .tc := ⟨.hbm, 204, rfl⟩
abbrev main_call4_v3 : Ref sig .tc := ⟨.hbm, 205, rfl⟩
abbrev main_call4_v4 : Ref sig .tc := ⟨.hbm, 206, rfl⟩
abbrev main_call4_cst_0 : Ref sig .tc := ⟨.hbm, 207, rfl⟩
abbrev main_call4_v5 : Ref sig .tc := ⟨.hbm, 208, rfl⟩
abbrev main_call4_v6 : Ref sig .tc := ⟨.hbm, 209, rfl⟩
abbrev main_call4_v7 : Ref sig .tc := ⟨.hbm, 210, rfl⟩
abbrev main_call4_cst_1 : Ref sig .tc := ⟨.hbm, 211, rfl⟩
abbrev main_call4_v8 : Ref sig .tc := ⟨.hbm, 212, rfl⟩
abbrev main_call4_v9 : Ref sig .tc := ⟨.hbm, 213, rfl⟩
abbrev main_call4_v10 : Ref sig .tc := ⟨.hbm, 214, rfl⟩
abbrev main_call4_v11 : Ref sig .tc := ⟨.hbm, 215, rfl⟩
abbrev main_call4_v12 : Ref sig .tc := ⟨.hbm, 216, rfl⟩
abbrev main_call4_v13 : Ref sig .tc := ⟨.hbm, 217, rfl⟩
abbrev main_call4_v14 : Ref sig .tc := ⟨.hbm, 218, rfl⟩
abbrev main_call4_v15 : Ref sig .tc := ⟨.hbm, 219, rfl⟩
abbrev main_call4_v16 : Ref sig .tc := ⟨.hbm, 220, rfl⟩
abbrev main_v97 : Ref sig .tc := ⟨.hbm, 221, rfl⟩
abbrev main_v98 : Ref sig .tc := ⟨.hbm, 222, rfl⟩
abbrev main_v99 : Ref sig .tc := ⟨.hbm, 223, rfl⟩
abbrev main_v100 : Ref sig .tc := ⟨.hbm, 224, rfl⟩
abbrev main_v101 : Ref sig .tc := ⟨.hbm, 225, rfl⟩
abbrev main_v102 : Ref sig .tc := ⟨.hbm, 226, rfl⟩
abbrev main_v103 : Ref sig .tc := ⟨.hbm, 227, rfl⟩
abbrev main_cst_22 : Ref sig .tc := ⟨.hbm, 228, rfl⟩
abbrev main_v104 : Ref sig .tc := ⟨.hbm, 229, rfl⟩
abbrev main_cst_23 : Ref sig .tc := ⟨.hbm, 230, rfl⟩
abbrev main_v105 : Ref sig .tc := ⟨.hbm, 231, rfl⟩
abbrev main_cst_24 : Ref sig .tc := ⟨.hbm, 232, rfl⟩
abbrev main_v106 : Ref sig .tc := ⟨.hbm, 233, rfl⟩
abbrev main_v107 : Ref sig .tc := ⟨.hbm, 234, rfl⟩
abbrev main_v108 : Ref sig .tc := ⟨.hbm, 235, rfl⟩
abbrev main_v109 : Ref sig .tc := ⟨.hbm, 236, rfl⟩
abbrev main_v110 : Ref sig .tc := ⟨.hbm, 237, rfl⟩
abbrev main_c_25 : Ref sig .tc := ⟨.hbm, 238, rfl⟩
abbrev main_v111 : Ref sig .tc := ⟨.hbm, 239, rfl⟩
abbrev main_v112 : Ref sig .tc := ⟨.hbm, 240, rfl⟩
abbrev main_v113 : Ref sig .tc := ⟨.hbm, 241, rfl⟩
abbrev main_c_26 : Ref sig .tc := ⟨.hbm, 242, rfl⟩
abbrev main_c_27 : Ref sig .tc := ⟨.hbm, 243, rfl⟩
abbrev main_call5_v0 : Ref sig .tc := ⟨.hbm, 244, rfl⟩
abbrev main_call5_v1 : Ref sig .tc := ⟨.hbm, 245, rfl⟩
abbrev main_call5_v2 : Ref sig .tc := ⟨.hbm, 246, rfl⟩
abbrev main_call5_v3 : Ref sig .tc := ⟨.hbm, 247, rfl⟩
abbrev main_call5_v4 : Ref sig .tc := ⟨.hbm, 248, rfl⟩
abbrev main_v114 : Ref sig .tc := ⟨.hbm, 249, rfl⟩
abbrev main_call6_c : Ref sig .tc := ⟨.hbm, 250, rfl⟩
abbrev main_call6_v0 : Ref sig .tc := ⟨.hbm, 251, rfl⟩
abbrev main_call6_v1 : Ref sig .tc := ⟨.hbm, 252, rfl⟩
abbrev main_call6_c_0 : Ref sig .tc := ⟨.hbm, 253, rfl⟩
abbrev main_call6_v2 : Ref sig .tc := ⟨.hbm, 254, rfl⟩
abbrev main_call6_v3 : Ref sig .tc := ⟨.hbm, 255, rfl⟩
abbrev main_call6_v4 : Ref sig .tc := ⟨.hbm, 256, rfl⟩
abbrev main_call6_v5 : Ref sig .tc := ⟨.hbm, 257, rfl⟩
abbrev main_call6_c_1 : Ref sig .tc := ⟨.hbm, 258, rfl⟩
abbrev main_call6_c_2 : Ref sig .tc := ⟨.hbm, 259, rfl⟩
abbrev main_call6_v6 : Ref sig .tc := ⟨.hbm, 260, rfl⟩
abbrev main_call6_v7 : Ref sig .tc := ⟨.hbm, 261, rfl⟩
abbrev main_call6_v8 : Ref sig .tc := ⟨.hbm, 262, rfl⟩
abbrev main_call6_v9 : Ref sig .tc := ⟨.hbm, 263, rfl⟩
abbrev main_call6_v10 : Ref sig .tc := ⟨.hbm, 264, rfl⟩
abbrev main_call6_v11 : Ref sig .tc := ⟨.hbm, 265, rfl⟩
abbrev main_call6_c_3 : Ref sig .tc := ⟨.hbm, 266, rfl⟩
abbrev main_call6_v12 : Ref sig .tc := ⟨.hbm, 267, rfl⟩
abbrev main_call6_v13 : Ref sig .tc := ⟨.hbm, 268, rfl⟩
abbrev main_call6_v14 : Ref sig .tc := ⟨.hbm, 269, rfl⟩
abbrev main_call6_cst : Ref sig .tc := ⟨.hbm, 270, rfl⟩
abbrev main_call6_v15 : Ref sig .tc := ⟨.hbm, 271, rfl⟩
abbrev main_v115 : Ref sig .tc := ⟨.hbm, 272, rfl⟩
abbrev main_v116 : Ref sig .tc := ⟨.hbm, 273, rfl⟩
abbrev main_v117 : Ref sig .tc := ⟨.hbm, 274, rfl⟩
abbrev main_v118 : Ref sig .tc := ⟨.hbm, 275, rfl⟩
abbrev main_v119 : Ref sig .tc := ⟨.hbm, 276, rfl⟩
abbrev main_cst_28 : Ref sig .tc := ⟨.hbm, 277, rfl⟩
abbrev main_cst_29 : Ref sig .tc := ⟨.hbm, 278, rfl⟩
abbrev main_call7_v0 : Ref sig .tc := ⟨.hbm, 279, rfl⟩
abbrev main_call7_v1 : Ref sig .tc := ⟨.hbm, 280, rfl⟩
abbrev main_call7_v2 : Ref sig .tc := ⟨.hbm, 281, rfl⟩
abbrev main_call7_cst : Ref sig .tc := ⟨.hbm, 282, rfl⟩
abbrev main_call7_v3 : Ref sig .tc := ⟨.hbm, 283, rfl⟩
abbrev main_call7_v4 : Ref sig .tc := ⟨.hbm, 284, rfl⟩
abbrev main_call7_cst_0 : Ref sig .tc := ⟨.hbm, 285, rfl⟩
abbrev main_call7_v5 : Ref sig .tc := ⟨.hbm, 286, rfl⟩
abbrev main_call7_v6 : Ref sig .tc := ⟨.hbm, 287, rfl⟩
abbrev main_call7_v7 : Ref sig .tc := ⟨.hbm, 288, rfl⟩
abbrev main_call7_cst_1 : Ref sig .tc := ⟨.hbm, 289, rfl⟩
abbrev main_call7_v8 : Ref sig .tc := ⟨.hbm, 290, rfl⟩
abbrev main_call7_v9 : Ref sig .tc := ⟨.hbm, 291, rfl⟩
abbrev main_call7_v10 : Ref sig .tc := ⟨.hbm, 292, rfl⟩
abbrev main_call7_v11 : Ref sig .tc := ⟨.hbm, 293, rfl⟩
abbrev main_call7_v12 : Ref sig .tc := ⟨.hbm, 294, rfl⟩
abbrev main_call7_v13 : Ref sig .tc := ⟨.hbm, 295, rfl⟩
abbrev main_call7_v14 : Ref sig .tc := ⟨.hbm, 296, rfl⟩
abbrev main_call7_v15 : Ref sig .tc := ⟨.hbm, 297, rfl⟩
abbrev main_call7_v16 : Ref sig .tc := ⟨.hbm, 298, rfl⟩
abbrev main_v120 : Ref sig .tc := ⟨.hbm, 299, rfl⟩
abbrev main_v121 : Ref sig .tc := ⟨.hbm, 300, rfl⟩
abbrev main_v122 : Ref sig .tc := ⟨.hbm, 301, rfl⟩
abbrev main_v123 : Ref sig .tc := ⟨.hbm, 302, rfl⟩
abbrev main_v124 : Ref sig .tc := ⟨.hbm, 303, rfl⟩
abbrev main_v125 : Ref sig .tc := ⟨.hbm, 304, rfl⟩
abbrev main_v126 : Ref sig .tc := ⟨.hbm, 305, rfl⟩
abbrev main_cst_30 : Ref sig .tc := ⟨.hbm, 306, rfl⟩
abbrev main_v127 : Ref sig .tc := ⟨.hbm, 307, rfl⟩
abbrev main_cst_31 : Ref sig .tc := ⟨.hbm, 308, rfl⟩
abbrev main_v128 : Ref sig .tc := ⟨.hbm, 309, rfl⟩
abbrev main_cst_32 : Ref sig .tc := ⟨.hbm, 310, rfl⟩
abbrev main_v129 : Ref sig .tc := ⟨.hbm, 311, rfl⟩
abbrev main_v130 : Ref sig .tc := ⟨.hbm, 312, rfl⟩
abbrev main_v131 : Ref sig .tc := ⟨.hbm, 313, rfl⟩
abbrev main_v132 : Ref sig .tc := ⟨.hbm, 314, rfl⟩
abbrev main_v133 : Ref sig .tc := ⟨.hbm, 315, rfl⟩
abbrev main_c_33 : Ref sig .tc := ⟨.hbm, 316, rfl⟩
abbrev main_v134 : Ref sig .tc := ⟨.hbm, 317, rfl⟩
abbrev main_v135 : Ref sig .tc := ⟨.hbm, 318, rfl⟩
abbrev main_v136 : Ref sig .tc := ⟨.hbm, 319, rfl⟩
abbrev main_c_34 : Ref sig .tc := ⟨.hbm, 320, rfl⟩
abbrev main_c_35 : Ref sig .tc := ⟨.hbm, 321, rfl⟩
abbrev main_call8_v0 : Ref sig .tc := ⟨.hbm, 322, rfl⟩
abbrev main_call8_v1 : Ref sig .tc := ⟨.hbm, 323, rfl⟩
abbrev main_call8_v2 : Ref sig .tc := ⟨.hbm, 324, rfl⟩
abbrev main_call8_v3 : Ref sig .tc := ⟨.hbm, 325, rfl⟩
abbrev main_call8_v4 : Ref sig .tc := ⟨.hbm, 326, rfl⟩
abbrev main_v137 : Ref sig .tc := ⟨.hbm, 327, rfl⟩
abbrev main_call9_c : Ref sig .tc := ⟨.hbm, 328, rfl⟩
abbrev main_call9_v0 : Ref sig .tc := ⟨.hbm, 329, rfl⟩
abbrev main_call9_v1 : Ref sig .tc := ⟨.hbm, 330, rfl⟩
abbrev main_call9_c_0 : Ref sig .tc := ⟨.hbm, 331, rfl⟩
abbrev main_call9_v2 : Ref sig .tc := ⟨.hbm, 332, rfl⟩
abbrev main_call9_v3 : Ref sig .tc := ⟨.hbm, 333, rfl⟩
abbrev main_call9_v4 : Ref sig .tc := ⟨.hbm, 334, rfl⟩
abbrev main_call9_v5 : Ref sig .tc := ⟨.hbm, 335, rfl⟩
abbrev main_call9_c_1 : Ref sig .tc := ⟨.hbm, 336, rfl⟩
abbrev main_call9_c_2 : Ref sig .tc := ⟨.hbm, 337, rfl⟩
abbrev main_call9_v6 : Ref sig .tc := ⟨.hbm, 338, rfl⟩
abbrev main_call9_v7 : Ref sig .tc := ⟨.hbm, 339, rfl⟩
abbrev main_call9_v8 : Ref sig .tc := ⟨.hbm, 340, rfl⟩
abbrev main_call9_v9 : Ref sig .tc := ⟨.hbm, 341, rfl⟩
abbrev main_call9_v10 : Ref sig .tc := ⟨.hbm, 342, rfl⟩
abbrev main_call9_v11 : Ref sig .tc := ⟨.hbm, 343, rfl⟩
abbrev main_call9_c_3 : Ref sig .tc := ⟨.hbm, 344, rfl⟩
abbrev main_call9_v12 : Ref sig .tc := ⟨.hbm, 345, rfl⟩
abbrev main_call9_v13 : Ref sig .tc := ⟨.hbm, 346, rfl⟩
abbrev main_call9_v14 : Ref sig .tc := ⟨.hbm, 347, rfl⟩
abbrev main_call9_cst : Ref sig .tc := ⟨.hbm, 348, rfl⟩
abbrev main_call9_v15 : Ref sig .tc := ⟨.hbm, 349, rfl⟩
abbrev main_v138 : Ref sig .tc := ⟨.hbm, 350, rfl⟩
abbrev main_v139 : Ref sig .tc := ⟨.hbm, 351, rfl⟩
abbrev main_v140 : Ref sig .tc := ⟨.hbm, 352, rfl⟩
abbrev main_v141 : Ref sig .tc := ⟨.hbm, 353, rfl⟩
abbrev main_v142 : Ref sig .tc := ⟨.hbm, 354, rfl⟩
abbrev main_v143 : Ref sig .tc := ⟨.hbm, 355, rfl⟩
abbrev main_v144 : Ref sig .tc := ⟨.hbm, 356, rfl⟩
abbrev main_v145 : Ref sig .tc := ⟨.hbm, 357, rfl⟩
abbrev main_cst_36 : Ref sig .tc := ⟨.hbm, 358, rfl⟩
abbrev main_v146 : Ref sig .tc := ⟨.hbm, 359, rfl⟩
abbrev main_v147 : Ref sig .tc := ⟨.hbm, 360, rfl⟩
abbrev main_cst_37 : Ref sig .tc := ⟨.hbm, 361, rfl⟩
abbrev main_v148 : Ref sig .tc := ⟨.hbm, 362, rfl⟩
abbrev main_v149 : Ref sig .tc := ⟨.hbm, 363, rfl⟩
abbrev main_v150 : Ref sig .tc := ⟨.hbm, 364, rfl⟩
abbrev main_v151 : Ref sig .tc := ⟨.hbm, 365, rfl⟩
abbrev main_v152 : Ref sig .tc := ⟨.hbm, 366, rfl⟩
abbrev main_cst_38 : Ref sig .tc := ⟨.hbm, 367, rfl⟩
abbrev main_v153 : Ref sig .tc := ⟨.hbm, 368, rfl⟩
abbrev main_v154 : Ref sig .tc := ⟨.hbm, 369, rfl⟩
abbrev main_cst_39 : Ref sig .tc := ⟨.hbm, 370, rfl⟩
abbrev main_v155 : Ref sig .tc := ⟨.hbm, 371, rfl⟩
abbrev main_v156 : Ref sig .tc := ⟨.hbm, 372, rfl⟩
abbrev main_v157 : Ref sig .tc := ⟨.hbm, 373, rfl⟩
abbrev main_v158 : Ref sig .tc := ⟨.hbm, 374, rfl⟩
abbrev main_cst_40 : Ref sig .tc := ⟨.hbm, 375, rfl⟩
abbrev main_v159 : Ref sig .tc := ⟨.hbm, 376, rfl⟩
abbrev main_v160 : Ref sig .tc := ⟨.hbm, 377, rfl⟩
abbrev main_v161 : Ref sig .tc := ⟨.hbm, 378, rfl⟩
abbrev main_v162 : Ref sig .tc := ⟨.hbm, 379, rfl⟩
abbrev main_v163 : Ref sig .tc := ⟨.hbm, 380, rfl⟩
abbrev main_v164 : Ref sig .tc := ⟨.hbm, 381, rfl⟩
abbrev main_v165 : Ref sig .tc := ⟨.hbm, 382, rfl⟩
abbrev main_v166 : Ref sig .tc := ⟨.hbm, 383, rfl⟩
abbrev main_v167 : Ref sig .tc := ⟨.hbm, 384, rfl⟩
abbrev main_v168 : Ref sig .tc := ⟨.hbm, 385, rfl⟩
abbrev main_v169 : Ref sig .tc := ⟨.hbm, 386, rfl⟩
abbrev main_v170 : Ref sig .tc := ⟨.hbm, 387, rfl⟩
abbrev main_v171 : Ref sig .tc := ⟨.hbm, 388, rfl⟩
abbrev main_v172 : Ref sig .tc := ⟨.hbm, 389, rfl⟩
abbrev main_v173 : Ref sig .tc := ⟨.hbm, 390, rfl⟩
abbrev main_v174 : Ref sig .tc := ⟨.hbm, 391, rfl⟩
abbrev main_cst_41 : Ref sig .tc := ⟨.hbm, 392, rfl⟩
abbrev main_cst_42 : Ref sig .tc := ⟨.hbm, 393, rfl⟩
abbrev main_call10_v0 : Ref sig .tc := ⟨.hbm, 394, rfl⟩
abbrev main_call10_v1 : Ref sig .tc := ⟨.hbm, 395, rfl⟩
abbrev main_call10_v2 : Ref sig .tc := ⟨.hbm, 396, rfl⟩
abbrev main_call10_cst : Ref sig .tc := ⟨.hbm, 397, rfl⟩
abbrev main_call10_v3 : Ref sig .tc := ⟨.hbm, 398, rfl⟩
abbrev main_call10_v4 : Ref sig .tc := ⟨.hbm, 399, rfl⟩
abbrev main_call10_cst_0 : Ref sig .tc := ⟨.hbm, 400, rfl⟩
abbrev main_call10_v5 : Ref sig .tc := ⟨.hbm, 401, rfl⟩
abbrev main_call10_v6 : Ref sig .tc := ⟨.hbm, 402, rfl⟩
abbrev main_call10_v7 : Ref sig .tc := ⟨.hbm, 403, rfl⟩
abbrev main_call10_cst_1 : Ref sig .tc := ⟨.hbm, 404, rfl⟩
abbrev main_call10_v8 : Ref sig .tc := ⟨.hbm, 405, rfl⟩
abbrev main_call10_v9 : Ref sig .tc := ⟨.hbm, 406, rfl⟩
abbrev main_call10_v10 : Ref sig .tc := ⟨.hbm, 407, rfl⟩
abbrev main_call10_v11 : Ref sig .tc := ⟨.hbm, 408, rfl⟩
abbrev main_call10_v12 : Ref sig .tc := ⟨.hbm, 409, rfl⟩
abbrev main_call10_v13 : Ref sig .tc := ⟨.hbm, 410, rfl⟩
abbrev main_call10_v14 : Ref sig .tc := ⟨.hbm, 411, rfl⟩
abbrev main_call10_v15 : Ref sig .tc := ⟨.hbm, 412, rfl⟩
abbrev main_call10_v16 : Ref sig .tc := ⟨.hbm, 413, rfl⟩
abbrev main_v175 : Ref sig .tc := ⟨.hbm, 414, rfl⟩
abbrev main_v176 : Ref sig .tc := ⟨.hbm, 415, rfl⟩
abbrev main_v177 : Ref sig .tc := ⟨.hbm, 416, rfl⟩
abbrev main_v178 : Ref sig .tc := ⟨.hbm, 417, rfl⟩
abbrev main_v179 : Ref sig .tc := ⟨.hbm, 418, rfl⟩
abbrev main_v180 : Ref sig .tc := ⟨.hbm, 419, rfl⟩
abbrev main_v181 : Ref sig .tc := ⟨.hbm, 420, rfl⟩
abbrev main_cst_43 : Ref sig .tc := ⟨.hbm, 421, rfl⟩
abbrev main_v182 : Ref sig .tc := ⟨.hbm, 422, rfl⟩
abbrev main_cst_44 : Ref sig .tc := ⟨.hbm, 423, rfl⟩
abbrev main_v183 : Ref sig .tc := ⟨.hbm, 424, rfl⟩
abbrev main_cst_45 : Ref sig .tc := ⟨.hbm, 425, rfl⟩
abbrev main_v184 : Ref sig .tc := ⟨.hbm, 426, rfl⟩
abbrev main_v185 : Ref sig .tc := ⟨.hbm, 427, rfl⟩
abbrev main_v186 : Ref sig .tc := ⟨.hbm, 428, rfl⟩
abbrev main_v187 : Ref sig .tc := ⟨.hbm, 429, rfl⟩
abbrev main_v188 : Ref sig .tc := ⟨.hbm, 430, rfl⟩
abbrev main_c_46 : Ref sig .tc := ⟨.hbm, 431, rfl⟩
abbrev main_v189 : Ref sig .tc := ⟨.hbm, 432, rfl⟩
abbrev main_v190 : Ref sig .tc := ⟨.hbm, 433, rfl⟩
abbrev main_v191 : Ref sig .tc := ⟨.hbm, 434, rfl⟩
abbrev main_c_47 : Ref sig .tc := ⟨.hbm, 435, rfl⟩
abbrev main_c_48 : Ref sig .tc := ⟨.hbm, 436, rfl⟩
abbrev main_call11_v0 : Ref sig .tc := ⟨.hbm, 437, rfl⟩
abbrev main_call11_v1 : Ref sig .tc := ⟨.hbm, 438, rfl⟩
abbrev main_call11_v2 : Ref sig .tc := ⟨.hbm, 439, rfl⟩
abbrev main_call11_v3 : Ref sig .tc := ⟨.hbm, 440, rfl⟩
abbrev main_call11_v4 : Ref sig .tc := ⟨.hbm, 441, rfl⟩
abbrev main_v192 : Ref sig .tc := ⟨.hbm, 442, rfl⟩
abbrev main_call12_c : Ref sig .tc := ⟨.hbm, 443, rfl⟩
abbrev main_call12_v0 : Ref sig .tc := ⟨.hbm, 444, rfl⟩
abbrev main_call12_v1 : Ref sig .tc := ⟨.hbm, 445, rfl⟩
abbrev main_call12_c_0 : Ref sig .tc := ⟨.hbm, 446, rfl⟩
abbrev main_call12_v2 : Ref sig .tc := ⟨.hbm, 447, rfl⟩
abbrev main_call12_v3 : Ref sig .tc := ⟨.hbm, 448, rfl⟩
abbrev main_call12_v4 : Ref sig .tc := ⟨.hbm, 449, rfl⟩
abbrev main_call12_v5 : Ref sig .tc := ⟨.hbm, 450, rfl⟩
abbrev main_call12_c_1 : Ref sig .tc := ⟨.hbm, 451, rfl⟩
abbrev main_call12_c_2 : Ref sig .tc := ⟨.hbm, 452, rfl⟩
abbrev main_call12_v6 : Ref sig .tc := ⟨.hbm, 453, rfl⟩
abbrev main_call12_v7 : Ref sig .tc := ⟨.hbm, 454, rfl⟩
abbrev main_call12_v8 : Ref sig .tc := ⟨.hbm, 455, rfl⟩
abbrev main_call12_v9 : Ref sig .tc := ⟨.hbm, 456, rfl⟩
abbrev main_call12_v10 : Ref sig .tc := ⟨.hbm, 457, rfl⟩
abbrev main_call12_v11 : Ref sig .tc := ⟨.hbm, 458, rfl⟩
abbrev main_call12_c_3 : Ref sig .tc := ⟨.hbm, 459, rfl⟩
abbrev main_call12_v12 : Ref sig .tc := ⟨.hbm, 460, rfl⟩
abbrev main_call12_v13 : Ref sig .tc := ⟨.hbm, 461, rfl⟩
abbrev main_call12_v14 : Ref sig .tc := ⟨.hbm, 462, rfl⟩
abbrev main_call12_cst : Ref sig .tc := ⟨.hbm, 463, rfl⟩
abbrev main_call12_v15 : Ref sig .tc := ⟨.hbm, 464, rfl⟩
abbrev main_v193 : Ref sig .tc := ⟨.hbm, 465, rfl⟩
abbrev main_v194 : Ref sig .tc := ⟨.hbm, 466, rfl⟩
abbrev main_v195 : Ref sig .tc := ⟨.hbm, 467, rfl⟩
abbrev main_v196 : Ref sig .tc := ⟨.hbm, 468, rfl⟩
abbrev main_v197 : Ref sig .tc := ⟨.hbm, 469, rfl⟩
abbrev main_cst_49 : Ref sig .tc := ⟨.hbm, 470, rfl⟩
abbrev main_cst_50 : Ref sig .tc := ⟨.hbm, 471, rfl⟩
abbrev main_call13_v0 : Ref sig .tc := ⟨.hbm, 472, rfl⟩
abbrev main_call13_v1 : Ref sig .tc := ⟨.hbm, 473, rfl⟩
abbrev main_call13_v2 : Ref sig .tc := ⟨.hbm, 474, rfl⟩
abbrev main_call13_cst : Ref sig .tc := ⟨.hbm, 475, rfl⟩
abbrev main_call13_v3 : Ref sig .tc := ⟨.hbm, 476, rfl⟩
abbrev main_call13_v4 : Ref sig .tc := ⟨.hbm, 477, rfl⟩
abbrev main_call13_cst_0 : Ref sig .tc := ⟨.hbm, 478, rfl⟩
abbrev main_call13_v5 : Ref sig .tc := ⟨.hbm, 479, rfl⟩
abbrev main_call13_v6 : Ref sig .tc := ⟨.hbm, 480, rfl⟩
abbrev main_call13_v7 : Ref sig .tc := ⟨.hbm, 481, rfl⟩
abbrev main_call13_cst_1 : Ref sig .tc := ⟨.hbm, 482, rfl⟩
abbrev main_call13_v8 : Ref sig .tc := ⟨.hbm, 483, rfl⟩
abbrev main_call13_v9 : Ref sig .tc := ⟨.hbm, 484, rfl⟩
abbrev main_call13_v10 : Ref sig .tc := ⟨.hbm, 485, rfl⟩
abbrev main_call13_v11 : Ref sig .tc := ⟨.hbm, 486, rfl⟩
abbrev main_call13_v12 : Ref sig .tc := ⟨.hbm, 487, rfl⟩
abbrev main_call13_v13 : Ref sig .tc := ⟨.hbm, 488, rfl⟩
abbrev main_call13_v14 : Ref sig .tc := ⟨.hbm, 489, rfl⟩
abbrev main_call13_v15 : Ref sig .tc := ⟨.hbm, 490, rfl⟩
abbrev main_call13_v16 : Ref sig .tc := ⟨.hbm, 491, rfl⟩
abbrev main_v198 : Ref sig .tc := ⟨.hbm, 492, rfl⟩
abbrev main_v199 : Ref sig .tc := ⟨.hbm, 493, rfl⟩
abbrev main_v200 : Ref sig .tc := ⟨.hbm, 494, rfl⟩
abbrev main_v201 : Ref sig .tc := ⟨.hbm, 495, rfl⟩
abbrev main_v202 : Ref sig .tc := ⟨.hbm, 496, rfl⟩
abbrev main_v203 : Ref sig .tc := ⟨.hbm, 497, rfl⟩
abbrev main_v204 : Ref sig .tc := ⟨.hbm, 498, rfl⟩
abbrev main_cst_51 : Ref sig .tc := ⟨.hbm, 499, rfl⟩
abbrev main_v205 : Ref sig .tc := ⟨.hbm, 500, rfl⟩
abbrev main_cst_52 : Ref sig .tc := ⟨.hbm, 501, rfl⟩
abbrev main_v206 : Ref sig .tc := ⟨.hbm, 502, rfl⟩
abbrev main_cst_53 : Ref sig .tc := ⟨.hbm, 503, rfl⟩
abbrev main_v207 : Ref sig .tc := ⟨.hbm, 504, rfl⟩
abbrev main_v208 : Ref sig .tc := ⟨.hbm, 505, rfl⟩
abbrev main_v209 : Ref sig .tc := ⟨.hbm, 506, rfl⟩
abbrev main_v210 : Ref sig .tc := ⟨.hbm, 507, rfl⟩
abbrev main_v211 : Ref sig .tc := ⟨.hbm, 508, rfl⟩
abbrev main_c_54 : Ref sig .tc := ⟨.hbm, 509, rfl⟩
abbrev main_v212 : Ref sig .tc := ⟨.hbm, 510, rfl⟩
abbrev main_v213 : Ref sig .tc := ⟨.hbm, 511, rfl⟩
abbrev main_v214 : Ref sig .tc := ⟨.hbm, 512, rfl⟩
abbrev main_c_55 : Ref sig .tc := ⟨.hbm, 513, rfl⟩
abbrev main_c_56 : Ref sig .tc := ⟨.hbm, 514, rfl⟩
abbrev main_call14_v0 : Ref sig .tc := ⟨.hbm, 515, rfl⟩
abbrev main_call14_v1 : Ref sig .tc := ⟨.hbm, 516, rfl⟩
abbrev main_call14_v2 : Ref sig .tc := ⟨.hbm, 517, rfl⟩
abbrev main_call14_v3 : Ref sig .tc := ⟨.hbm, 518, rfl⟩
abbrev main_call14_v4 : Ref sig .tc := ⟨.hbm, 519, rfl⟩
abbrev main_v215 : Ref sig .tc := ⟨.hbm, 520, rfl⟩
abbrev main_call15_c : Ref sig .tc := ⟨.hbm, 521, rfl⟩
abbrev main_call15_v0 : Ref sig .tc := ⟨.hbm, 522, rfl⟩
abbrev main_call15_v1 : Ref sig .tc := ⟨.hbm, 523, rfl⟩
abbrev main_call15_c_0 : Ref sig .tc := ⟨.hbm, 524, rfl⟩
abbrev main_call15_v2 : Ref sig .tc := ⟨.hbm, 525, rfl⟩
abbrev main_call15_v3 : Ref sig .tc := ⟨.hbm, 526, rfl⟩
abbrev main_call15_v4 : Ref sig .tc := ⟨.hbm, 527, rfl⟩
abbrev main_call15_v5 : Ref sig .tc := ⟨.hbm, 528, rfl⟩
abbrev main_call15_c_1 : Ref sig .tc := ⟨.hbm, 529, rfl⟩
abbrev main_call15_c_2 : Ref sig .tc := ⟨.hbm, 530, rfl⟩
abbrev main_call15_v6 : Ref sig .tc := ⟨.hbm, 531, rfl⟩
abbrev main_call15_v7 : Ref sig .tc := ⟨.hbm, 532, rfl⟩
abbrev main_call15_v8 : Ref sig .tc := ⟨.hbm, 533, rfl⟩
abbrev main_call15_v9 : Ref sig .tc := ⟨.hbm, 534, rfl⟩
abbrev main_call15_v10 : Ref sig .tc := ⟨.hbm, 535, rfl⟩
abbrev main_call15_v11 : Ref sig .tc := ⟨.hbm, 536, rfl⟩
abbrev main_call15_c_3 : Ref sig .tc := ⟨.hbm, 537, rfl⟩
abbrev main_call15_v12 : Ref sig .tc := ⟨.hbm, 538, rfl⟩
abbrev main_call15_v13 : Ref sig .tc := ⟨.hbm, 539, rfl⟩
abbrev main_call15_v14 : Ref sig .tc := ⟨.hbm, 540, rfl⟩
abbrev main_call15_cst : Ref sig .tc := ⟨.hbm, 541, rfl⟩
abbrev main_call15_v15 : Ref sig .tc := ⟨.hbm, 542, rfl⟩
abbrev main_v216 : Ref sig .tc := ⟨.hbm, 543, rfl⟩
abbrev main_v217 : Ref sig .tc := ⟨.hbm, 544, rfl⟩
abbrev main_v218 : Ref sig .tc := ⟨.hbm, 545, rfl⟩
abbrev main_v219 : Ref sig .tc := ⟨.hbm, 546, rfl⟩
abbrev main_v220 : Ref sig .tc := ⟨.hbm, 547, rfl⟩
abbrev main_cst_57 : Ref sig .tc := ⟨.hbm, 548, rfl⟩
abbrev main_cst_58 : Ref sig .tc := ⟨.hbm, 549, rfl⟩
abbrev main_call16_v0 : Ref sig .tc := ⟨.hbm, 550, rfl⟩
abbrev main_call16_v1 : Ref sig .tc := ⟨.hbm, 551, rfl⟩
abbrev main_call16_v2 : Ref sig .tc := ⟨.hbm, 552, rfl⟩
abbrev main_call16_cst : Ref sig .tc := ⟨.hbm, 553, rfl⟩
abbrev main_call16_v3 : Ref sig .tc := ⟨.hbm, 554, rfl⟩
abbrev main_call16_v4 : Ref sig .tc := ⟨.hbm, 555, rfl⟩
abbrev main_call16_cst_0 : Ref sig .tc := ⟨.hbm, 556, rfl⟩
abbrev main_call16_v5 : Ref sig .tc := ⟨.hbm, 557, rfl⟩
abbrev main_call16_v6 : Ref sig .tc := ⟨.hbm, 558, rfl⟩
abbrev main_call16_v7 : Ref sig .tc := ⟨.hbm, 559, rfl⟩
abbrev main_call16_cst_1 : Ref sig .tc := ⟨.hbm, 560, rfl⟩
abbrev main_call16_v8 : Ref sig .tc := ⟨.hbm, 561, rfl⟩
abbrev main_call16_v9 : Ref sig .tc := ⟨.hbm, 562, rfl⟩
abbrev main_call16_v10 : Ref sig .tc := ⟨.hbm, 563, rfl⟩
abbrev main_call16_v11 : Ref sig .tc := ⟨.hbm, 564, rfl⟩
abbrev main_call16_v12 : Ref sig .tc := ⟨.hbm, 565, rfl⟩
abbrev main_call16_v13 : Ref sig .tc := ⟨.hbm, 566, rfl⟩
abbrev main_call16_v14 : Ref sig .tc := ⟨.hbm, 567, rfl⟩
abbrev main_call16_v15 : Ref sig .tc := ⟨.hbm, 568, rfl⟩
abbrev main_call16_v16 : Ref sig .tc := ⟨.hbm, 569, rfl⟩
abbrev main_v221 : Ref sig .tc := ⟨.hbm, 570, rfl⟩
abbrev main_v222 : Ref sig .tc := ⟨.hbm, 571, rfl⟩
abbrev main_v223 : Ref sig .tc := ⟨.hbm, 572, rfl⟩
abbrev main_v224 : Ref sig .tc := ⟨.hbm, 573, rfl⟩
abbrev main_v225 : Ref sig .tc := ⟨.hbm, 574, rfl⟩
abbrev main_v226 : Ref sig .tc := ⟨.hbm, 575, rfl⟩
abbrev main_v227 : Ref sig .tc := ⟨.hbm, 576, rfl⟩
abbrev main_cst_59 : Ref sig .tc := ⟨.hbm, 577, rfl⟩
abbrev main_v228 : Ref sig .tc := ⟨.hbm, 578, rfl⟩
abbrev main_cst_60 : Ref sig .tc := ⟨.hbm, 579, rfl⟩
abbrev main_v229 : Ref sig .tc := ⟨.hbm, 580, rfl⟩
abbrev main_cst_61 : Ref sig .tc := ⟨.hbm, 581, rfl⟩
abbrev main_v230 : Ref sig .tc := ⟨.hbm, 582, rfl⟩
abbrev main_v231 : Ref sig .tc := ⟨.hbm, 583, rfl⟩
abbrev main_v232 : Ref sig .tc := ⟨.hbm, 584, rfl⟩
abbrev main_v233 : Ref sig .tc := ⟨.hbm, 585, rfl⟩
abbrev main_v234 : Ref sig .tc := ⟨.hbm, 586, rfl⟩
abbrev main_c_62 : Ref sig .tc := ⟨.hbm, 587, rfl⟩
abbrev main_v235 : Ref sig .tc := ⟨.hbm, 588, rfl⟩
abbrev main_v236 : Ref sig .tc := ⟨.hbm, 589, rfl⟩
abbrev main_v237 : Ref sig .tc := ⟨.hbm, 590, rfl⟩
abbrev main_c_63 : Ref sig .tc := ⟨.hbm, 591, rfl⟩
abbrev main_c_64 : Ref sig .tc := ⟨.hbm, 592, rfl⟩
abbrev main_call17_v0 : Ref sig .tc := ⟨.hbm, 593, rfl⟩
abbrev main_call17_v1 : Ref sig .tc := ⟨.hbm, 594, rfl⟩
abbrev main_call17_v2 : Ref sig .tc := ⟨.hbm, 595, rfl⟩
abbrev main_call17_v3 : Ref sig .tc := ⟨.hbm, 596, rfl⟩
abbrev main_call17_v4 : Ref sig .tc := ⟨.hbm, 597, rfl⟩
abbrev main_v238 : Ref sig .tc := ⟨.hbm, 598, rfl⟩
abbrev main_call18_c : Ref sig .tc := ⟨.hbm, 599, rfl⟩
abbrev main_call18_v0 : Ref sig .tc := ⟨.hbm, 600, rfl⟩
abbrev main_call18_v1 : Ref sig .tc := ⟨.hbm, 601, rfl⟩
abbrev main_call18_c_0 : Ref sig .tc := ⟨.hbm, 602, rfl⟩
abbrev main_call18_v2 : Ref sig .tc := ⟨.hbm, 603, rfl⟩
abbrev main_call18_v3 : Ref sig .tc := ⟨.hbm, 604, rfl⟩
abbrev main_call18_v4 : Ref sig .tc := ⟨.hbm, 605, rfl⟩
abbrev main_call18_v5 : Ref sig .tc := ⟨.hbm, 606, rfl⟩
abbrev main_call18_c_1 : Ref sig .tc := ⟨.hbm, 607, rfl⟩
abbrev main_call18_c_2 : Ref sig .tc := ⟨.hbm, 608, rfl⟩
abbrev main_call18_v6 : Ref sig .tc := ⟨.hbm, 609, rfl⟩
abbrev main_call18_v7 : Ref sig .tc := ⟨.hbm, 610, rfl⟩
abbrev main_call18_v8 : Ref sig .tc := ⟨.hbm, 611, rfl⟩
abbrev main_call18_v9 : Ref sig .tc := ⟨.hbm, 612, rfl⟩
abbrev main_call18_v10 : Ref sig .tc := ⟨.hbm, 613, rfl⟩
abbrev main_call18_v11 : Ref sig .tc := ⟨.hbm, 614, rfl⟩
abbrev main_call18_c_3 : Ref sig .tc := ⟨.hbm, 615, rfl⟩
abbrev main_call18_v12 : Ref sig .tc := ⟨.hbm, 616, rfl⟩
abbrev main_call18_v13 : Ref sig .tc := ⟨.hbm, 617, rfl⟩
abbrev main_call18_v14 : Ref sig .tc := ⟨.hbm, 618, rfl⟩
abbrev main_call18_cst : Ref sig .tc := ⟨.hbm, 619, rfl⟩
abbrev main_call18_v15 : Ref sig .tc := ⟨.hbm, 620, rfl⟩
abbrev main_v239 : Ref sig .tc := ⟨.hbm, 621, rfl⟩
abbrev main_v240 : Ref sig .tc := ⟨.hbm, 622, rfl⟩
abbrev main_v241 : Ref sig .tc := ⟨.hbm, 623, rfl⟩
abbrev main_v242 : Ref sig .tc := ⟨.hbm, 624, rfl⟩

abbrev nD : Nat := 1
abbrev τ : Topo := Topo.v7x

variable {F : FTy → Type} [FloatOps F]
-- ==== Proof.RefFrame.lean ====
/- The reference terminates, leaves its arguments as they were and has no semaphore to disturb. -/
module
public import proofs.«01_k».proof.Defs
public import proofs.«01_k».proof.Proof.Gen.ReferenceIdeal.Run
public import Idealize.ShloMosaic.Lib.Claim
@[expose] public section
noncomputable section
namespace Cert.Proof
open Idealize.ShloMosaic Idealize.SL.Sem
theorem frame_reference : Cert.quiescent_ReferenceIdeal (hReferenceIdeal := Cert.ReferenceIdeal.Gen.facts) := by
  intro m g _
  refine Idealize.ShloMosaic.θ_run_mono (Cert.ReferenceIdeal.Value.run m g) fun r h => ⟨fun c => ?_, ?_⟩
  · obtain ⟨-, -, -, -, -, -, h⟩ := h c
    exact h
  · funext s
    obtain ⟨t, s⟩ := s
    revert s
    intro s
    cases s with
    | reg i => exact i.elim0
    | dma i => exact i.elim0
end Cert.Proof
end
-- ==== Proof.KRun.lean ====
/- The run of the two-call program with the contents of every buffer at its end: the launch below follows the pattern of
   the frame's own launch over the same segments, and reads the last boundary's contents instead of the arguments only. -/
module

public import proofs.«01_k».proof.Proof.Gen.KernelIdeal.Frame

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

set_option backward.isDefEq.respectTransparency.types false in
/-- Every execution terminates, and every buffer that is not local to a call ends at the last boundary's contents. -/
theorem run_contents : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h => h)

/-- The same for one named buffer. -/
theorem run_buffers : θ_run defs (onTc (τ := τ) (main (F := F))) ⟨m, fun _ => 0, ρ⟩ (fun r => ∀ c : Dev nD,
      ∀ b : Ref sig .tc, (h : ¬ (Proc.devRef .tc b : DevRef τ sig).isScoped) →
        r.2.mem ((c.tc : Thread nD τ).loc b) = W10 m ρ c (Proc.devRef .tc b)) :=
  (θ_run defs _ _).mono (fun _ h c b hb => h c _ (mem_uc b hb)) (run_contents m ρ)

end Cert.KernelIdeal.Run

end
-- ==== Proof.Mlp.lean ====
/- The layers of the distance network: the first call's arithmetic against the reference's, stage by stage. -/
module
public import proofs.«01_k».proof.Proof.Gen.KernelIdeal.Skeleton
public import proofs.«01_k».proof.Proof.Gen.ReferenceIdeal.Read
public import Idealize.ShloMosaic.Lib.Pointwise
public import Idealize.ShloMosaic.Lib.WordCmp
@[expose] public section
set_option maxRecDepth 16384
noncomputable section
namespace Cert.Mlp
open Idealize.ShloMosaic Idealize.ShloMosaic.TcCoe Idealize.SL.Sem
open Cert.KernelIdeal Cert.KernelIdeal.Gen
open Cert.ReferenceIdeal.Read

/-- A small natural number, written as a word and read back as a real. -/
theorem sitofp_nat (k : ℕ) (h : k < 2 ^ 31) : FloatOps.sitofp (F := Ideal) FTy.f32 (BitVec.ofNat 32 k) = ((k : ℝ) : EReal) := by
  show (((BitVec.ofNat 32 k).toInt : ℝ) : EReal) = _
  rw [show (BitVec.ofNat 32 k).toInt = (k : ℤ) by rw [BitVec.toInt_eq_toNat_of_lt] <;> simp <;> omega]; norm_cast

theorem w31 : Ideal.ofBits .f32 1106771968#32 = ((31 : ℝ) : EReal) := by
  simp [Ideal.ofBits, Ideal.ieee, -EReal.coe_mul]; norm_num

theorem w1 : Ideal.ofBits .f32 1065353216#32 = ((1 : ℝ) : EReal) := by
  simp [Ideal.ofBits, Ideal.ieee, -EReal.coe_mul]; norm_num

/-- The reference's 32 equally spaced numbers from 1 to 32 are 1, 2, …, 32. -/
theorem linR (k : Fin 32) : val_main_v0 (F := Ideal) (ix1 k) = ((((k : ℕ) : ℝ) + 1 : ℝ) : EReal) := by
  pointwise [val_main_v0, Cert.ReferenceIdeal.Value.fn_main_v0, val_main_call0_v15, val_main_call0_v14, val_main_call0_v13, val_main_call0_v12, val_main_call0_v11, val_main_call0_v10, val_main_call0_v9, val_main_call0_v8, val_main_call0_v7,
    val_main_call0_v6, val_main_call0_v5, val_main_call0_v4, val_main_call0_v0, val_main_call0_v1, val_main_call0_v16, val_main_cst, val_main_c, val_main_call0_cst_1, val_main_call0_cst_0]
  have h32 := sitofp_nat 32 (by norm_num)
  rw [show BitVec.ofNat 32 32 = 32#32 from rfl] at h32
  split
  · rw [w31, Ideal.div_coe (by norm_num), sitofp_nat _ (by omega), h32]
    simp only [id_eq, ValueIdx.constant_apply, w1]
    rw [show (1 : EReal) = ((1 : ℝ) : EReal) from rfl]
    simp only [← EReal.coe_mul, ← EReal.coe_sub, ← EReal.coe_add]
    congr 1
    push_cast
    ring
  · rename_i h
    have : (k : ℕ) = 31 := by omega
    rw [h32, this]; norm_num

/-- The first layer before normalisation, row `r` of a tile against row `R` of the whole. -/
theorem z1 (x : FVec Ideal S64x1 .f32) (lo hi : FVec Ideal S32x512 .f32) (b : FVec Ideal S512 .f32)
    (X : FVec Ideal S128x1 .f32) (W : FVec Ideal S64x512 .f32) (r : Fin 64) (R : Fin 128) (j : Fin 512)
    (hx : x (ix2 r 0) = X (ix2 R 0)) (hlo : ∀ k : Fin 32, lo (ix2 k j) = W (ix2 ⟨k, by omega⟩ j))
    (hhi : ∀ k : Fin 32, hi (ix2 k j) = W (ix2 ⟨32 + k, by omega⟩ j)) :
    k0_pay2 (F := Ideal) x lo hi b (ix2 r j) = val_main_v15 (F := Ideal) X W b (ix2 R j) := by
  have e : ∀ k : Fin 32, (FloatOps.sitofp (F := Ideal) FTy.f32 (IntOp.addi (BitVec.ofNat 32 (k : ℕ)) 1#32) : EReal) = val_main_v0 (F := Ideal) (ix1 k) := fun k => by
    rw [linR, show IntOp.addi (BitVec.ofNat 32 (k : ℕ)) 1#32 = BitVec.ofNat 32 ((k : ℕ) + 1) by
      simp [IntOp.addi, BitVec.ofNat_add], sitofp_nat _ (by omega)]
    norm_cast
  pointwise [k0_pay2, hx, hlo, hhi, e, val_main_v15, val_main_v14, val_main_v13, val_main_v12, val_main_v11, val_main_v10, val_main_v9, val_main_v8, val_main_v7, val_main_v6, val_main_v5, val_main_v4, val_main_v3, val_main_v2, val_main_v1, val_main_cst_0, val_main_cst_1]
  simp only [mul_comm (Ideal.ofBits FTy.f32 1140120929#32)]

section Layers
variable (x : FVec Ideal S64x1 .f32) (lo hi : FVec Ideal S32x512 .f32) (b : FVec Ideal S512 .f32)
    (X : FVec Ideal S128x1 .f32) (W : FVec Ideal S64x512 .f32) (r : Fin 64) (R : Fin 128)

/-- The mean of the first layer's row. -/
theorem mean1 (h : ∀ j : Fin 512, k0_pay2 (F := Ideal) x lo hi b (ix2 r j) = val_main_v15 (F := Ideal) X W b (ix2 R j)) :
    k0_pay3 (F := Ideal) x lo hi b (ix2 r 0) = val_main_v19 (F := Ideal) X W b (ix2 R 0) := by
  pointwise [k0_pay3, h, val_main_v19, val_main_v18, val_main_v17, val_main_v16, val_main_cst_2, val_main_cst_3]

/-- The first layer's row less its mean. -/
theorem centred1 (h : ∀ j : Fin 512, k0_pay2 (F := Ideal) x lo hi b (ix2 r j) = val_main_v15 (F := Ideal) X W b (ix2 R j)) (j : Fin 512) :
    k0_pay4 (F := Ideal) x lo hi b (ix2 r j) = val_main_v28 (F := Ideal) X W b (ix2 R j) := by
  pointwise [k0_pay4, h, mean1 x lo hi b X W r R h, val_main_v28, val_main_v27]

/-- The first layer's variance with the small constant added. -/
theorem var1 (h : ∀ j : Fin 512, k0_pay2 (F := Ideal) x lo hi b (ix2 r j) = val_main_v15 (F := Ideal) X W b (ix2 R j)) :
    k0_pay5 (F := Ideal) x lo hi b (ix2 r 0) = val_main_v30 (F := Ideal) X W b (ix2 R 0) := by
  pointwise [k0_pay5, h, mean1 x lo hi b X W r R h, val_main_v30, val_main_v29, val_main_v26, val_main_v25, val_main_v24, val_main_v23, val_main_v22, val_main_v21, val_main_v20, val_main_cst_4, val_main_cst_5, val_main_cst_6]
end Layers

/-- The second layer: the 768 values of a row. -/
theorem layer2 (g be : FVec Ideal S512 .f32) (p : FVec Ideal S64x512 .f32) (q : FVec Ideal S64x1 .f32)
    (W2 : FVec Ideal S512x768 .f32) (b2 g2 be2 : FVec Ideal S768 .f32)
    (X : FVec Ideal S128x1 .f32) (W : FVec Ideal S64x512 .f32) (b : FVec Ideal S512 .f32) (r : Fin 64) (R : Fin 128)
    (hp : ∀ j : Fin 512, p (ix2 r j) = val_main_v28 (F := Ideal) X W b (ix2 R j))
    (hq : q (ix2 r 0) = val_main_v30 (F := Ideal) X W b (ix2 R 0)) (j : Fin 768) :
    k0_pay6 (F := Ideal) g be p q W2 b2 g2 be2 (ix2 r j) = val_main_v69 (F := Ideal) X W b g be W2 b2 g2 be2 (ix2 R j) := by
  pointwise [k0_pay6, hp, hq, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_cst_7, val_main_cst_8, val_main_cst_9, val_main_cst_10, val_main_cst_11]

/-- The third layer: the 1536 values of a row. -/
theorem layer3 (h : FVec Ideal S64x768 .f32) (W3 : FVec Ideal S768x1536 .f32) (b3 g3 be3 : FVec Ideal S1536 .f32)
    (X : FVec Ideal S128x1 .f32) (W : FVec Ideal S64x512 .f32) (b g be : FVec Ideal S512 .f32)
    (W2 : FVec Ideal S512x768 .f32) (b2 g2 be2 : FVec Ideal S768 .f32) (r : Fin 64) (R : Fin 128)
    (hh : ∀ j : Fin 768, h (ix2 r j) = val_main_v69 (F := Ideal) X W b g be W2 b2 g2 be2 (ix2 R j)) (j : Fin 1536) :
    k0_pay1 (F := Ideal) h W3 b3 g3 be3 (ix2 r j)
      = val_main_v170 (F := Ideal) X W b g be W2 b2 g2 be2 W3 b3 g3 be3 (ix2 R j) := by
  pointwise [k0_pay1, hh, val_main_v142, val_main_v143, val_main_v144, val_main_v145, val_main_v146, val_main_v147, val_main_v148, val_main_v149, val_main_v150, val_main_v151, val_main_v152, val_main_v153, val_main_v154, val_main_v155, val_main_v156, val_main_v157, val_main_v158, val_main_v159, val_main_v160, val_main_v161, val_main_v162, val_main_v163, val_main_v164, val_main_v165, val_main_v166, val_main_v167, val_main_v168, val_main_v169, val_main_v170, val_main_cst_36, val_main_cst_37, val_main_cst_38, val_main_cst_39, val_main_cst_40]

end Cert.Mlp
end
-- ==== Proof.Region0.lean ====
/- The first call: its two arrays end as the reference's distance features of the arguments. -/
module
public import proofs.«01_k».proof.Proof.Gen.KernelIdeal.Frame
public import proofs.«01_k».proof.Proof.Mlp
public import Idealize.ShloMosaic.Lib.Pipeline.ValueKit
@[expose] public section
set_option maxRecDepth 16384
noncomputable section
namespace Cert.KernelIdeal.Region0
open Idealize.ShloMosaic Idealize.ShloMosaic.TcCoe Idealize.SL.Sem
open Idealize.ShloMosaic.Pipeline (Dat)
open Cert.KernelIdeal Cert.KernelIdeal.Gen
open Cert.ReferenceIdeal.Read
variable (m : (ℓ : Loc nD τ sig) → Buf (Elt Ideal) ℓ) (ρ : Dev nD → PrngReg)

theorem idx0 : ∀ t : Fin cfg0.N, win0_0.index t = ![t.val, 0] ∧ win0_1.index t = ![0, 0] ∧ win0_2.index t = ![0] ∧ win0_3.index t = ![0]
    ∧ win0_4.index t = ![0] ∧ win0_5.index t = ![0, 0] ∧ win0_6.index t = ![0] ∧ win0_7.index t = ![0] ∧ win0_8.index t = ![0]
    ∧ win0_9.index t = ![0, 0] ∧ win0_10.index t = ![0] ∧ win0_11.index t = ![0] ∧ win0_12.index t = ![0]
    ∧ win0_13.index t = ![t.val, 0] ∧ win0_14.index t = ![t.val, 0] ∧ t.val < 2 :=
  (by decide +kernel : ∀ t : Fin grid0.N, _)

variable (c : Dev nD)

/-- The reference's 768 distance features per row, of the arguments. -/
def KV : FVec Ideal S128x768 .f32 := val_main_v69 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
/-- The reference's 1536 distance features per row, of the arguments. -/
def KVB : FVec Ideal S128x1536 .f32 := val_main_v170 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))

theorem blk1 (t : Fin cfg0.N) : iblk0 (V0 m ρ) c 1 t = m ((c : Thread nD τ).loc main_arg1) := by blk_ext! [iblk0, V0, W0, s₀, idx0 t]
theorem blk2 (t : Fin cfg0.N) : iblk0 (V0 m ρ) c 2 t = m ((c : Thread nD τ).loc main_arg2) := by blk_ext! [iblk0, V0, W0, s₀, idx0 t]
theorem blk3 (t : Fin cfg0.N) : iblk0 (V0 m ρ) c 3 t = m ((c : Thread nD τ).loc main_arg3) := by blk_ext! [iblk0, V0, W0, s₀, idx0 t]
theorem blk4 (t : Fin cfg0.N) : iblk0 (V0 m ρ) c 4 t = m ((c : Thread nD τ).loc main_arg4) := by blk_ext! [iblk0, V0, W0, s₀, idx0 t]
theorem blk5 (t : Fin cfg0.N) : iblk0 (V0 m ρ) c 5 t = m ((c : Thread nD τ).loc main_arg5) := by blk_ext! [iblk0, V0, W0, s₀, idx0 t]
theorem blk6 (t : Fin cfg0.N) : iblk0 (V0 m ρ) c 6 t = m ((c : Thread nD τ).loc main_arg6) := by blk_ext! [iblk0, V0, W0, s₀, idx0 t]
theorem blk7 (t : Fin cfg0.N) : iblk0 (V0 m ρ) c 7 t = m ((c : Thread nD τ).loc main_arg7) := by blk_ext! [iblk0, V0, W0, s₀, idx0 t]
theorem blk8 (t : Fin cfg0.N) : iblk0 (V0 m ρ) c 8 t = m ((c : Thread nD τ).loc main_arg8) := by blk_ext! [iblk0, V0, W0, s₀, idx0 t]
theorem blk9 (t : Fin cfg0.N) : iblk0 (V0 m ρ) c 9 t = m ((c : Thread nD τ).loc main_arg9) := by blk_ext! [iblk0, V0, W0, s₀, idx0 t]
theorem blk10 (t : Fin cfg0.N) : iblk0 (V0 m ρ) c 10 t = m ((c : Thread nD τ).loc main_arg10) := by blk_ext! [iblk0, V0, W0, s₀, idx0 t]
theorem blk11 (t : Fin cfg0.N) : iblk0 (V0 m ρ) c 11 t = m ((c : Thread nD τ).loc main_arg11) := by blk_ext! [iblk0, V0, W0, s₀, idx0 t]
theorem blk12 (t : Fin cfg0.N) : iblk0 (V0 m ρ) c 12 t = m ((c : Thread nD τ).loc main_arg12) := by blk_ext! [iblk0, V0, W0, s₀, idx0 t]

/-- A load of the first 32 rows of the first weight matrix. -/
theorem ld_lo (W : FVec Ideal S64x512 .f32) (k : Fin 32) (j : Fin 512) : View.ld (Val := Elt Ideal) (e' := .f32) W r0_1 (ix2 k j) = W (ix2 ⟨k, by omega⟩ j) := by
  rw [View.ld_unit]; pointwise
/-- A load of its last 32 rows. -/
theorem ld_hi (W : FVec Ideal S64x512 .f32) (k : Fin 32) (j : Fin 512) : View.ld (Val := Elt Ideal) (e' := .f32) W r0_2 (ix2 k j) = W (ix2 ⟨32 + k, by omega⟩ j) := by
  rw [View.ld_unit]; pointwise

section Core
variable (x0 : FVec Ideal S64x1 .f32) (x1 : FVec Ideal S64x512 .f32) (x2 : FVec Ideal S512 .f32) (x3 : FVec Ideal S512 .f32) (x4 : FVec Ideal S512 .f32) (x5 : FVec Ideal S512x768 .f32) (x6 : FVec Ideal S768 .f32) (x7 : FVec Ideal S768 .f32) (x8 : FVec Ideal S768 .f32) (x9 : FVec Ideal S768x1536 .f32) (x10 : FVec Ideal S1536 .f32) (x11 : FVec Ideal S1536 .f32) (x12 : FVec Ideal S1536 .f32) (X : FVec Ideal S128x1 .f32) (r : Fin 64) (R : Fin 128)

/-- What the body computes for the 768 features of row `r` of a tile, over the blocks it reads. -/
theorem kv_core (hx : x0 (ix2 r 0) = X (ix2 R 0)) (j : Fin 768) :
    (k0_pay6 (F := Ideal) x3 x4 (k0_pay7 x0 x1 x2 x3 x4 x5 x6 x7 x8 x9 x10 x11 x12) (k0_pay8 x0 x1 x2 x3 x4 x5 x6 x7 x8 x9 x10 x11 x12) x5 x6 x7 x8 (ix2 r j) : EReal) = val_main_v69 (F := Ideal) X x1 x2 x3 x4 x5 x6 x7 x8 (ix2 R j) := by
  have hz : ∀ j : Fin 512, (k0_pay2 (F := Ideal) x0 (View.ld x1 r0_1) (View.ld x1 r0_2) x2 (ix2 r j) : EReal)
      = val_main_v15 (F := Ideal) X x1 x2 (ix2 R j) := fun j =>
    Cert.Mlp.z1 _ _ _ _ _ _ r R j hx (fun k => ld_lo x1 k j) (fun k => ld_hi x1 k j)
  simp (disch := decide) only [k0_pay7, k0_pay8, View.ld_unit_lit']
  exact Cert.Mlp.layer2 _ _ _ _ _ _ _ _ _ _ _ r R (fun j => Cert.Mlp.centred1 _ _ _ _ _ _ r R hz j) (Cert.Mlp.var1 _ _ _ _ _ _ r R hz) j
/-- What it computes for the 1536 features of row `r`. -/
theorem kvb_core (hx : x0 (ix2 r 0) = X (ix2 R 0)) (j : Fin 1536) :
    (k0_pay1 (F := Ideal) (k0_pay6 (F := Ideal) x3 x4 (k0_pay7 x0 x1 x2 x3 x4 x5 x6 x7 x8 x9 x10 x11 x12) (k0_pay8 x0 x1 x2 x3 x4 x5 x6 x7 x8 x9 x10 x11 x12) x5 x6 x7 x8) x9 x10 x11 x12 (ix2 r j) : EReal)
      = val_main_v170 (F := Ideal) X x1 x2 x3 x4 x5 x6 x7 x8 x9 x10 x11 x12 (ix2 R j) :=
  Cert.Mlp.layer3 _ _ _ _ _ _ _ _ _ _ _ _ _ _ r R (fun j => kv_core x0 x1 x2 x3 x4 x5 x6 x7 x8 x9 x10 x11 x12 X r R hx j) j
end Core

theorem point13 (t : Fin cfg0.N) (y : S64x768.Idx) :
    (k0_pay6 (F := Ideal) (iblk0 (V0 m ρ) c 3 t) (iblk0 (V0 m ρ) c 4 t) (k0_pay7 (iblk0 (V0 m ρ) c 0 t) (iblk0 (V0 m ρ) c 1 t) (iblk0 (V0 m ρ) c 2 t) (iblk0 (V0 m ρ) c 3 t) (iblk0 (V0 m ρ) c 4 t) (iblk0 (V0 m ρ) c 5 t) (iblk0 (V0 m ρ) c 6 t) (iblk0 (V0 m ρ) c 7 t) (iblk0 (V0 m ρ) c 8 t) (iblk0 (V0 m ρ) c 9 t) (iblk0 (V0 m ρ) c 10 t) (iblk0 (V0 m ρ) c 11 t) (iblk0 (V0 m ρ) c 12 t)) (k0_pay8 (iblk0 (V0 m ρ) c 0 t) (iblk0 (V0 m ρ) c 1 t) (iblk0 (V0 m ρ) c 2 t) (iblk0 (V0 m ρ) c 3 t) (iblk0 (V0 m ρ) c 4 t) (iblk0 (V0 m ρ) c 5 t) (iblk0 (V0 m ρ) c 6 t) (iblk0 (V0 m ρ) c 7 t) (iblk0 (V0 m ρ) c 8 t) (iblk0 (V0 m ρ) c 9 t) (iblk0 (V0 m ρ) c 10 t) (iblk0 (V0 m ρ) c 11 t) (iblk0 (V0 m ρ) c 12 t)) (iblk0 (V0 m ρ) c 5 t) (iblk0 (V0 m ρ) c 6 t) (iblk0 (V0 m ρ) c 7 t) (iblk0 (V0 m ρ) c 8 t) y : EReal) = KV m c (((cfg0.win 13).blk t).view.emb y) := by
  have h2 := (idx0 t).2.2.2.2.2.2.2.2.2.2.2.2.2.2.2
  have hy : (y 0 : ℕ) < 64 := (y 0).isLt
  have e : ((cfg0.win 13).blk t).view.emb y = ix2 (⟨t.val * 64 + y 0, by omega⟩ : Fin 128) (y 1) := by blk_ext [idx0 t]
  have hx : iblk0 (V0 m ρ) c 0 t (ix2 (y 0) 0) = (m ((c : Thread nD τ).loc main_arg0) : FVec Ideal S128x1 .f32) (ix2 (⟨t.val * 64 + y 0, by omega⟩ : Fin 128) 0) := by
    blk_ext [iblk0, V0, W0, s₀, idx0 t]
  have h := kv_core (iblk0 (V0 m ρ) c 0 t) (iblk0 (V0 m ρ) c 1 t) (iblk0 (V0 m ρ) c 2 t) (iblk0 (V0 m ρ) c 3 t) (iblk0 (V0 m ρ) c 4 t) (iblk0 (V0 m ρ) c 5 t) (iblk0 (V0 m ρ) c 6 t) (iblk0 (V0 m ρ) c 7 t) (iblk0 (V0 m ρ) c 8 t) (iblk0 (V0 m ρ) c 9 t) (iblk0 (V0 m ρ) c 10 t) (iblk0 (V0 m ρ) c 11 t) (iblk0 (V0 m ρ) c 12 t) (m ((c : Thread nD τ).loc main_arg0)) (y 0) ⟨t.val * 64 + y 0, by omega⟩ hx (y 1)
  rw [e]
  refine (congrArg _ (ValueIdx.eq_ix2 y)).trans (h.trans ?_)
  rw [blk1 m ρ c t, blk2 m ρ c t, blk3 m ρ c t, blk4 m ρ c t, blk5 m ρ c t, blk6 m ρ c t, blk7 m ρ c t, blk8 m ρ c t]; rfl

theorem point14 (t : Fin cfg0.N) (y : S64x1536.Idx) :
    (k0_pay1 (F := Ideal) (k0_pay6 (F := Ideal) (iblk0 (V0 m ρ) c 3 t) (iblk0 (V0 m ρ) c 4 t) (k0_pay7 (iblk0 (V0 m ρ) c 0 t) (iblk0 (V0 m ρ) c 1 t) (iblk0 (V0 m ρ) c 2 t) (iblk0 (V0 m ρ) c 3 t) (iblk0 (V0 m ρ) c 4 t) (iblk0 (V0 m ρ) c 5 t) (iblk0 (V0 m ρ) c 6 t) (iblk0 (V0 m ρ) c 7 t) (iblk0 (V0 m ρ) c 8 t) (iblk0 (V0 m ρ) c 9 t) (iblk0 (V0 m ρ) c 10 t) (iblk0 (V0 m ρ) c 11 t) (iblk0 (V0 m ρ) c 12 t)) (k0_pay8 (iblk0 (V0 m ρ) c 0 t) (iblk0 (V0 m ρ) c 1 t) (iblk0 (V0 m ρ) c 2 t) (iblk0 (V0 m ρ) c 3 t) (iblk0 (V0 m ρ) c 4 t) (iblk0 (V0 m ρ) c 5 t) (iblk0 (V0 m ρ) c 6 t) (iblk0 (V0 m ρ) c 7 t) (iblk0 (V0 m ρ) c 8 t) (iblk0 (V0 m ρ) c 9 t) (iblk0 (V0 m ρ) c 10 t) (iblk0 (V0 m ρ) c 11 t) (iblk0 (V0 m ρ) c 12 t)) (iblk0 (V0 m ρ) c 5 t) (iblk0 (V0 m ρ) c 6 t) (iblk0 (V0 m ρ) c 7 t) (iblk0 (V0 m ρ) c 8 t)) (iblk0 (V0 m ρ) c 9 t) (iblk0 (V0 m ρ) c 10 t) (iblk0 (V0 m ρ) c 11 t) (iblk0 (V0 m ρ) c 12 t) y : EReal) = KVB m c (((cfg0.win 14).blk t).view.emb y) := by
  have h2 := (idx0 t).2.2.2.2.2.2.2.2.2.2.2.2.2.2.2
  have hy : (y 0 : ℕ) < 64 := (y 0).isLt
  have e : ((cfg0.win 14).blk t).view.emb y = ix2 (⟨t.val * 64 + y 0, by omega⟩ : Fin 128) (y 1) := by blk_ext [idx0 t]
  have hx : iblk0 (V0 m ρ) c 0 t (ix2 (y 0) 0) = (m ((c : Thread nD τ).loc main_arg0) : FVec Ideal S128x1 .f32) (ix2 (⟨t.val * 64 + y 0, by omega⟩ : Fin 128) 0) := by
    blk_ext [iblk0, V0, W0, s₀, idx0 t]
  have h := kvb_core (iblk0 (V0 m ρ) c 0 t) (iblk0 (V0 m ρ) c 1 t) (iblk0 (V0 m ρ) c 2 t) (iblk0 (V0 m ρ) c 3 t) (iblk0 (V0 m ρ) c 4 t) (iblk0 (V0 m ρ) c 5 t) (iblk0 (V0 m ρ) c 6 t) (iblk0 (V0 m ρ) c 7 t) (iblk0 (V0 m ρ) c 8 t) (iblk0 (V0 m ρ) c 9 t) (iblk0 (V0 m ρ) c 10 t) (iblk0 (V0 m ρ) c 11 t) (iblk0 (V0 m ρ) c 12 t) (m ((c : Thread nD τ).loc main_arg0)) (y 0) ⟨t.val * 64 + y 0, by omega⟩ hx (y 1)
  rw [e]
  refine (congrArg _ (ValueIdx.eq_ix2 y)).trans (h.trans ?_)
  rw [blk1 m ρ c t, blk2 m ρ c t, blk3 m ρ c t, blk4 m ρ c t, blk5 m ρ c t, blk6 m ρ c t, blk7 m ρ c t, blk8 m ρ c t, blk9 m ρ c t, blk10 m ρ c t, blk11 m ρ c t, blk12 m ρ c t]; rfl

/-- The first call's first result is the reference's 768 features. -/
theorem final13 : (dat0 (V0 m ρ) c).arrAt 13 cfg0.N = KV m c := by
  refine (dat0 (V0 m ρ) c).arrAt_eq_of_covers 13 _ (by decide +kernel) fun t _ y => ?_
  blk_simp
  rw [after0_13]; frame_out
  exact point13 m ρ c t y

/-- The first call's second result is the reference's 1536 features. -/
theorem final14 : (dat0 (V0 m ρ) c).arrAt 14 cfg0.N = KVB m c := by
  refine (dat0 (V0 m ρ) c).arrAt_eq_of_covers 14 _ (by decide +kernel) fun t _ y => ?_
  blk_simp
  rw [after0_14]; frame_out
  exact point14 m ρ c t y

end Cert.KernelIdeal.Region0
end
-- ==== Proof.Expand.lean ====
/- The bodies of the second call: what one grid step leaves in each of its six output blocks. -/
module
public import proofs.«01_k».proof.Proof.Gen.KernelIdeal.Frame
public import Idealize.ShloMosaic.Lib.Pipeline.ValueKit
public import Idealize.ShloMosaic.Lib.WordCmp
@[expose] public section
set_option maxRecDepth 16384
noncomputable section
namespace Cert.KernelIdeal.Expand
open Idealize.ShloMosaic Idealize.ShloMosaic.TcCoe Idealize.SL.Sem
open Idealize.ShloMosaic.Pipeline (Dat)
open Cert.KernelIdeal Cert.KernelIdeal.Gen

/-- A word in range is not negative, so the wrap-around of negative indices leaves it. -/
theorem wrap (w : BitVec 32) (hw : w.toNat < 64) :
    Scalar.select (IntOp.cmpi CmpIPredicate.slt w 0#32) (IntOp.addi w 128#32) w = w := by
  have : ¬ w.slt 0#32 := by
    rw [BitVec.slt, decide_eq_true_eq, BitVec.toInt_eq_toNat_of_lt (by omega)]; simp
  simp [Scalar.select, IntOp.cmpi, this]

/-- A read of a table of 64 stored twice along 128 lanes is a read of the table itself. -/
theorem pick {R : ℕ} (X : FVec Ideal ⟨2, ![R, 64]⟩ .f32) (a a' : Fin R) (w w' : BitVec 32) (hw : w'.toNat < 64)
    (ea : a = a') (e : w = w')
    (p : (Scalar.select (IntOp.cmpi CmpIPredicate.slt w 0#32) (IntOp.addi w 128#32) w).toNat % 128 < 64 → _)
    (q : ¬ (Scalar.select (IntOp.cmpi CmpIPredicate.slt w 0#32) (IntOp.addi w 128#32) w).toNat % 128 < 64 → _) :
    (if h : (Scalar.select (IntOp.cmpi CmpIPredicate.slt w 0#32) (IntOp.addi w 128#32) w).toNat % 128 < 64 then
        X (ix2 a ⟨(Scalar.select (IntOp.cmpi CmpIPredicate.slt w 0#32) (IntOp.addi w 128#32) w).toNat % 128, p h⟩)
      else X (ix2 a ⟨(Scalar.select (IntOp.cmpi CmpIPredicate.slt w 0#32) (IntOp.addi w 128#32) w).toNat % 128 - 64, q h⟩)) =
    X (ix2 a' ⟨w'.toNat % 64, Nat.mod_lt _ (by norm_num)⟩) := by
  subst e; subst ea
  have hs := wrap w hw
  rw [dif_pos (by rw [hs]; omega)]
  refine congrArg X (congrArg (ix2 a) (Fin.ext ?_))
  show (Scalar.select (IntOp.cmpi CmpIPredicate.slt w 0#32) (IntOp.addi w 128#32) w).toNat % 128 = w.toNat % 64
  rw [hs]; omega

section
variable (x0 : IVec S128x128 32) (x1 : FVec Ideal S256x32 .f32) (x2 : FVec Ideal S64x16 .f32) (x3 : FVec Ideal S64x64 .f32) (x4 : FVec Ideal S32x3072 .f32) (x5 : FVec Ideal S16x6144 .f32) (x6 : FVec Ideal S32x64 .f32)

/-- 64 rows of a table of 64 bins, read at the bin of each position. -/
def G7 (y : S64x128x128.Idx) : EReal := x3 (ix2 (y 0) ⟨(x0 (ix2 (y 1) (y 2))).toNat % 64, Nat.mod_lt _ (by norm_num)⟩)

theorem out7 (hx : ∀ i j : Fin 128, (x0 (ix2 i j)).toNat < 64) (y : S64x128x128.Idx) :
    (out1_7 (F := Ideal) x0 x1 x2 x3 x4 x5 x6 y : EReal) = G7 x0 x3 y := by
  canon_tiles x h
  all_goals
    open_payloads
    pointwise [G7]
    refine pick x3 _ _ _ _ (hx _ _) (Fin.ext h0.symm) (congrArg x0 (congrArg₂ ix2 (Fin.ext ?_) (Fin.ext h2.symm))) _ _
    exact h1.symm

/-- 32 rows of a table of 64 bins, read at the bin of each position. -/
def G10 (y : S32x128x128.Idx) : EReal := x6 (ix2 (y 0) ⟨(x0 (ix2 (y 1) (y 2))).toNat % 64, Nat.mod_lt _ (by norm_num)⟩)

theorem out10 (hx : ∀ i j : Fin 128, (x0 (ix2 i j)).toNat < 64) (y : S32x128x128.Idx) :
    (out1_10 (F := Ideal) x0 x1 x2 x3 x4 x5 x6 y : EReal) = G10 x0 x6 y := by
  canon_tiles x h
  all_goals
    open_payloads
    pointwise [G10]
    refine pick x6 _ _ _ _ (hx _ _) (Fin.ext h0.symm) (congrArg x0 (congrArg₂ ix2 (Fin.ext ?_) (Fin.ext h2.symm))) _ _
    exact h1.symm

/-- A product with the 32-bin indicator: the first 16 channels of the table. -/
def G8 (y : S16x4x64x128.Idx) : EReal := ∑ k : Fin 32, x1 (ix2 ⟨(y 1 : ℕ) * 64 + y 2, by have h1 : (y 1 : ℕ) < 4 := (y 1).isLt; have h2 : (y 2 : ℕ) < 64 := (y 2).isLt; omega⟩ k)
  * x4 (ix2 k ⟨((y 0 : ℕ) * 128 + y 3), by have h1 : (y 0 : ℕ) < 16 := (y 0).isLt; have h2 : (y 3 : ℕ) < 128 := (y 3).isLt; omega⟩)

theorem out8 (y : S16x4x64x128.Idx) :
    (out1_8 (F := Ideal) x0 x1 x2 x3 x4 x5 x6 y : EReal) = G8 x1 x4 y := by
  canon_tiles x h
  all_goals
    open_payloads
    pointwise [G8]
    blk_point []

/-- A product with the 32-bin indicator: the last 8 channels of the table. -/
def G11 (y : S8x4x64x128.Idx) : EReal := ∑ k : Fin 32, x1 (ix2 ⟨(y 1 : ℕ) * 64 + y 2, by have h1 : (y 1 : ℕ) < 4 := (y 1).isLt; have h2 : (y 2 : ℕ) < 64 := (y 2).isLt; omega⟩ k)
  * x4 (ix2 k ⟨2048 + ((y 0 : ℕ) * 128 + y 3), by have h1 : (y 0 : ℕ) < 8 := (y 0).isLt; have h2 : (y 3 : ℕ) < 128 := (y 3).isLt; omega⟩)

theorem out11 (y : S8x4x64x128.Idx) :
    (out1_11 (F := Ideal) x0 x1 x2 x3 x4 x5 x6 y : EReal) = G11 x1 x4 y := by
  canon_tiles x h
  all_goals
    open_payloads
    pointwise [G11]
    blk_point []

/-- A product with the 16-bin indicator: the first 32 channels of the table. -/
def G9 (y : S32x2x32x128.Idx) : EReal := ∑ k : Fin 16, x2 (ix2 ⟨(y 1 : ℕ) * 32 + y 2, by have h1 : (y 1 : ℕ) < 2 := (y 1).isLt; have h2 : (y 2 : ℕ) < 32 := (y 2).isLt; omega⟩ k)
  * x5 (ix2 k ⟨((y 0 : ℕ) * 128 + y 3), by have h1 : (y 0 : ℕ) < 32 := (y 0).isLt; have h2 : (y 3 : ℕ) < 128 := (y 3).isLt; omega⟩)

theorem out9 (y : S32x2x32x128.Idx) :
    (out1_9 (F := Ideal) x0 x1 x2 x3 x4 x5 x6 y : EReal) = G9 x2 x5 y := by
  canon_tiles x h
  all_goals
    open_payloads
    pointwise [G9, k1_pay148]
    blk_point []

/-- A product with the 16-bin indicator: the last 16 channels of the table. -/
def G12 (y : S16x2x32x128.Idx) : EReal := ∑ k : Fin 16, x2 (ix2 ⟨(y 1 : ℕ) * 32 + y 2, by have h1 : (y 1 : ℕ) < 2 := (y 1).isLt; have h2 : (y 2 : ℕ) < 32 := (y 2).isLt; omega⟩ k)
  * x5 (ix2 k ⟨4096 + ((y 0 : ℕ) * 128 + y 3), by have h1 : (y 0 : ℕ) < 16 := (y 0).isLt; have h2 : (y 3 : ℕ) < 128 := (y 3).isLt; omega⟩)

theorem out12 (y : S16x2x32x128.Idx) :
    (out1_12 (F := Ideal) x0 x1 x2 x3 x4 x5 x6 y : EReal) = G12 x2 x5 y := by
  canon_tiles x h
  all_goals
    open_payloads
    pointwise [G12]
    blk_point []
end

end Cert.KernelIdeal.Expand
end
-- ==== Proof.Region1.lean ====
/- The second call: what each of its six arrays holds at the end, as a function of its inputs. -/
module
public import proofs.«01_k».proof.Proof.Expand
@[expose] public section
set_option maxRecDepth 16384
noncomputable section
namespace Cert.KernelIdeal.Region1
open Idealize.ShloMosaic Idealize.ShloMosaic.TcCoe Idealize.SL.Sem
open Idealize.ShloMosaic.Pipeline (Dat)
open Cert.KernelIdeal Cert.KernelIdeal.Gen Cert.KernelIdeal.Expand

variable (V : (c : Dev nD) → (b : Ref sig .tc) → Buf (Elt Ideal) ((c : Thread nD τ).loc b)) (c : Dev nD)

theorem idx1 : ∀ t : Fin cfg1.N, win1_0.index t = ![0, 0] ∧ win1_1.index t = ![t.val, 0] ∧ win1_2.index t = ![t.val, 0] ∧ win1_3.index t = ![t.val, 0] ∧ win1_4.index t = ![0, 0] ∧ win1_5.index t = ![0, 0] ∧ win1_6.index t = ![t.val, 0] ∧ win1_7.index t = ![t.val, 0, 0] ∧ win1_8.index t = ![0, t.val, 0, 0] ∧ win1_9.index t = ![0, t.val, 0, 0] ∧ win1_10.index t = ![t.val, 0, 0] ∧ win1_11.index t = ![0, t.val, 0, 0] ∧ win1_12.index t = ![0, t.val, 0, 0] :=
  (by decide +kernel : ∀ t : Fin grid1.N, _)

/-- The 1024 output rows: the table read at the bin of each position. -/
def H7 (I : IVec S128x128 32) (T : FVec Ideal S1024x64 .f32) (y : S1024x128x128.Idx) : EReal :=
  T (ix2 (y 0) ⟨(I (ix2 (y 1) (y 2))).toNat % 64, Nat.mod_lt _ (by norm_num)⟩)

theorem point7 (t : Fin cfg1.N) (y : S64x128x128.Idx) :
    (G7 (iblk1 V c 0 t) (iblk1 V c 3 t) y : EReal) = H7 (V c main_v36) (V c main_v22) (((cfg1.win 7).blk t).view.emb y) := by
  have h2 := t.isLt
  have hy : (y 0 : ℕ) < 64 := (y 0).isLt
  have e : ((cfg1.win 7).blk t).view.emb y = (ix3 (⟨t.val * 64 + y 0, by have : t.val < 16 := h2; omega⟩ : Fin 1024) (y 1) (y 2) : S1024x128x128.Idx) := by blk_ext [idx1 t]
  rw [e]
  have e0 : iblk1 V c 0 t = V c main_v36 := by blk_ext! [iblk1, idx1 t]
  rw [e0]
  show iblk1 V c 3 t (ix2 (y 0) ⟨_, _⟩) = V c main_v22 (ix2 _ ⟨_, _⟩)
  blk_ext [iblk1, idx1 t]
  rfl

theorem final7 (hx : ∀ i j : Fin 128, ((V c main_v36 : IVec S128x128 32) (ix2 i j)).toNat < 64) :
    (dat1 V c).arrAt 7 cfg1.N = H7 (V c main_v36) (V c main_v22) := by
  refine (dat1 V c).arrAt_eq_of_covers 7 _ (by decide +kernel) fun t _ y => ?_
  blk_simp
  rw [after1_7]
  have e0 : iblk1 V c 0 t = V c main_v36 := by blk_ext! [iblk1, idx1 t]
  exact (out7 _ _ _ _ _ _ _ (fun i j => by rw [e0]; exact hx i j) y).trans (point7 V c t y)

/-- The 512 output rows: the table read at the bin of each position. -/
def H10 (I : IVec S128x128 32) (T : FVec Ideal S512x64 .f32) (y : S512x128x128.Idx) : EReal :=
  T (ix2 (y 0) ⟨(I (ix2 (y 1) (y 2))).toNat % 64, Nat.mod_lt _ (by norm_num)⟩)

theorem point10 (t : Fin cfg1.N) (y : S32x128x128.Idx) :
    (G10 (iblk1 V c 0 t) (iblk1 V c 6 t) y : EReal) = H10 (V c main_v36) (V c main_v20) (((cfg1.win 10).blk t).view.emb y) := by
  have h2 := t.isLt
  have hy : (y 0 : ℕ) < 32 := (y 0).isLt
  have e : ((cfg1.win 10).blk t).view.emb y = (ix3 (⟨t.val * 32 + y 0, by have : t.val < 16 := h2; omega⟩ : Fin 512) (y 1) (y 2) : S512x128x128.Idx) := by blk_ext [idx1 t]
  rw [e]
  have e0 : iblk1 V c 0 t = V c main_v36 := by blk_ext! [iblk1, idx1 t]
  rw [e0]
  show iblk1 V c 6 t (ix2 (y 0) ⟨_, _⟩) = V c main_v20 (ix2 _ ⟨_, _⟩)
  blk_ext [iblk1, idx1 t]
  rfl

theorem final10 (hx : ∀ i j : Fin 128, ((V c main_v36 : IVec S128x128 32) (ix2 i j)).toNat < 64) :
    (dat1 V c).arrAt 10 cfg1.N = H10 (V c main_v36) (V c main_v20) := by
  refine (dat1 V c).arrAt_eq_of_covers 10 _ (by decide +kernel) fun t _ y => ?_
  blk_simp
  rw [after1_10]
  have e0 : iblk1 V c 0 t = V c main_v36 := by blk_ext! [iblk1, idx1 t]
  exact (out10 _ _ _ _ _ _ _ (fun i j => by rw [e0]; exact hx i j) y).trans (point10 V c t y)

/-- The product of the 32-bin indicator with 16 channels of the table. -/
def H8 (O : FVec Ideal S4096x32 .f32) (T : FVec Ideal S32x3072 .f32) (y : S16x64x64x128.Idx) : EReal := ∑ k : Fin 32, O (ix2 ⟨(y 1 : ℕ) * 64 + y 2, by have h1 : (y 1 : ℕ) < 64 := (y 1).isLt; have h2 : (y 2 : ℕ) < 64 := (y 2).isLt; omega⟩ k)
  * T (ix2 k ⟨((y 0 : ℕ) * 128 + y 3), by have h1 : (y 0 : ℕ) < 16 := (y 0).isLt; have h2 : (y 3 : ℕ) < 128 := (y 3).isLt; omega⟩)

theorem point8 (t : Fin cfg1.N) (y : S16x4x64x128.Idx) :
    (G8 (iblk1 V c 1 t) (iblk1 V c 4 t) y : EReal) = H8 (V c main_v57) (V c main_v9) (((cfg1.win 8).blk t).view.emb y) := by
  have h2 := t.isLt
  have hy : (y 1 : ℕ) < 4 := (y 1).isLt
  have e : ((cfg1.win 8).blk t).view.emb y = (ix4 (y 0) (⟨t.val * 4 + y 1, by have : t.val < 16 := h2; omega⟩ : Fin 64) (y 2) (y 3) : S16x64x64x128.Idx) := by blk_ext [idx1 t]
  rw [e]
  have e0 : iblk1 V c 4 t = V c main_v9 := by blk_ext! [iblk1, idx1 t]
  rw [e0]
  refine Finset.sum_congr rfl fun k _ => congrArg (· * _) ?_
  show iblk1 V c 1 t (ix2 ⟨_, _⟩ k) = V c main_v57 (ix2 ⟨_, _⟩ k)
  blk_ext [iblk1, idx1 t]

theorem final8 : (dat1 V c).arrAt 8 cfg1.N = H8 (V c main_v57) (V c main_v9) := by
  refine (dat1 V c).arrAt_eq_of_covers 8 _ (by decide +kernel) fun t _ y => ?_
  blk_simp
  rw [after1_8]
  exact (out8 _ _ _ _ _ _ _ y).trans (point8 V c t y)

/-- The product of the 32-bin indicator with 8 channels of the table. -/
def H11 (O : FVec Ideal S4096x32 .f32) (T : FVec Ideal S32x3072 .f32) (y : S8x64x64x128.Idx) : EReal := ∑ k : Fin 32, O (ix2 ⟨(y 1 : ℕ) * 64 + y 2, by have h1 : (y 1 : ℕ) < 64 := (y 1).isLt; have h2 : (y 2 : ℕ) < 64 := (y 2).isLt; omega⟩ k)
  * T (ix2 k ⟨2048 + ((y 0 : ℕ) * 128 + y 3), by have h1 : (y 0 : ℕ) < 8 := (y 0).isLt; have h2 : (y 3 : ℕ) < 128 := (y 3).isLt; omega⟩)

theorem point11 (t : Fin cfg1.N) (y : S8x4x64x128.Idx) :
    (G11 (iblk1 V c 1 t) (iblk1 V c 4 t) y : EReal) = H11 (V c main_v57) (V c main_v9) (((cfg1.win 11).blk t).view.emb y) := by
  have h2 := t.isLt
  have hy : (y 1 : ℕ) < 4 := (y 1).isLt
  have e : ((cfg1.win 11).blk t).view.emb y = (ix4 (y 0) (⟨t.val * 4 + y 1, by have : t.val < 16 := h2; omega⟩ : Fin 64) (y 2) (y 3) : S8x64x64x128.Idx) := by blk_ext [idx1 t]
  rw [e]
  have e0 : iblk1 V c 4 t = V c main_v9 := by blk_ext! [iblk1, idx1 t]
  rw [e0]
  refine Finset.sum_congr rfl fun k _ => congrArg (· * _) ?_
  show iblk1 V c 1 t (ix2 ⟨_, _⟩ k) = V c main_v57 (ix2 ⟨_, _⟩ k)
  blk_ext [iblk1, idx1 t]

theorem final11 : (dat1 V c).arrAt 11 cfg1.N = H11 (V c main_v57) (V c main_v9) := by
  refine (dat1 V c).arrAt_eq_of_covers 11 _ (by decide +kernel) fun t _ y => ?_
  blk_simp
  rw [after1_11]
  exact (out11 _ _ _ _ _ _ _ y).trans (point11 V c t y)

/-- The product of the 16-bin indicator with 32 channels of the table. -/
def H9 (O : FVec Ideal S1024x16 .f32) (T : FVec Ideal S16x6144 .f32) (y : S32x32x32x128.Idx) : EReal := ∑ k : Fin 16, O (ix2 ⟨(y 1 : ℕ) * 32 + y 2, by have h1 : (y 1 : ℕ) < 32 := (y 1).isLt; have h2 : (y 2 : ℕ) < 32 := (y 2).isLt; omega⟩ k)
  * T (ix2 k ⟨((y 0 : ℕ) * 128 + y 3), by have h1 : (y 0 : ℕ) < 32 := (y 0).isLt; have h2 : (y 3 : ℕ) < 128 := (y 3).isLt; omega⟩)

theorem point9 (t : Fin cfg1.N) (y : S32x2x32x128.Idx) :
    (G9 (iblk1 V c 2 t) (iblk1 V c 5 t) y : EReal) = H9 (V c main_v78) (V c main_v18) (((cfg1.win 9).blk t).view.emb y) := by
  have h2 := t.isLt
  have hy : (y 1 : ℕ) < 2 := (y 1).isLt
  have e : ((cfg1.win 9).blk t).view.emb y = (ix4 (y 0) (⟨t.val * 2 + y 1, by have : t.val < 16 := h2; omega⟩ : Fin 32) (y 2) (y 3) : S32x32x32x128.Idx) := by blk_ext [idx1 t]
  rw [e]
  have e0 : iblk1 V c 5 t = V c main_v18 := by blk_ext! [iblk1, idx1 t]
  rw [e0]
  refine Finset.sum_congr rfl fun k _ => congrArg (· * _) ?_
  show iblk1 V c 2 t (ix2 ⟨_, _⟩ k) = V c main_v78 (ix2 ⟨_, _⟩ k)
  blk_ext [iblk1, idx1 t]

theorem final9 : (dat1 V c).arrAt 9 cfg1.N = H9 (V c main_v78) (V c main_v18) := by
  refine (dat1 V c).arrAt_eq_of_covers 9 _ (by decide +kernel) fun t _ y => ?_
  blk_simp
  rw [after1_9]
  exact (out9 _ _ _ _ _ _ _ y).trans (point9 V c t y)

/-- The product of the 16-bin indicator with 16 channels of the table. -/
def H12 (O : FVec Ideal S1024x16 .f32) (T : FVec Ideal S16x6144 .f32) (y : S16x32x32x128.Idx) : EReal := ∑ k : Fin 16, O (ix2 ⟨(y 1 : ℕ) * 32 + y 2, by have h1 : (y 1 : ℕ) < 32 := (y 1).isLt; have h2 : (y 2 : ℕ) < 32 := (y 2).isLt; omega⟩ k)
  * T (ix2 k ⟨4096 + ((y 0 : ℕ) * 128 + y 3), by have h1 : (y 0 : ℕ) < 16 := (y 0).isLt; have h2 : (y 3 : ℕ) < 128 := (y 3).isLt; omega⟩)

theorem point12 (t : Fin cfg1.N) (y : S16x2x32x128.Idx) :
    (G12 (iblk1 V c 2 t) (iblk1 V c 5 t) y : EReal) = H12 (V c main_v78) (V c main_v18) (((cfg1.win 12).blk t).view.emb y) := by
  have h2 := t.isLt
  have hy : (y 1 : ℕ) < 2 := (y 1).isLt
  have e : ((cfg1.win 12).blk t).view.emb y = (ix4 (y 0) (⟨t.val * 2 + y 1, by have : t.val < 16 := h2; omega⟩ : Fin 32) (y 2) (y 3) : S16x32x32x128.Idx) := by blk_ext [idx1 t]
  rw [e]
  have e0 : iblk1 V c 5 t = V c main_v18 := by blk_ext! [iblk1, idx1 t]
  rw [e0]
  refine Finset.sum_congr rfl fun k _ => congrArg (· * _) ?_
  show iblk1 V c 2 t (ix2 ⟨_, _⟩ k) = V c main_v78 (ix2 ⟨_, _⟩ k)
  blk_ext [iblk1, idx1 t]

theorem final12 : (dat1 V c).arrAt 12 cfg1.N = H12 (V c main_v78) (V c main_v18) := by
  refine (dat1 V c).arrAt_eq_of_covers 12 _ (by decide +kernel) fun t _ y => ?_
  blk_simp
  rw [after1_12]
  exact (out12 _ _ _ _ _ _ _ y).trans (point12 V c t y)

end Cert.KernelIdeal.Region1
end
-- ==== Proof.Host.lean ====
/- The host stretches: the bin indices, the indicators and the transposed tables that the second call is given. -/
module
public import proofs.«01_k».proof.Proof.Region0
public import proofs.«01_k».proof.Proof.Region1
@[expose] public section
set_option maxRecDepth 16384
noncomputable section
namespace Cert.KernelIdeal.Host
open Idealize.ShloMosaic Idealize.ShloMosaic.TcCoe Idealize.SL.Sem
open Cert.KernelIdeal Cert.KernelIdeal.Gen
open Cert.ReferenceIdeal.Read

section Stretch
variable (W : Valuation τ sig (Elt Ideal))

theorem s23 (h0 : W (Proc.devRef .tc main_cst) = constant (F := Ideal) S_ .f32 0xC2800000#32) (h1 : W (Proc.devRef .tc main_cst_0) = constant (F := Ideal) S_ .f32 0x42800000#32) :
    StableHlo.after hostOps1_1 W (Proc.devRef .tc main_v23) = val_main_v74 (F := Ideal) := by
  after_results; rw [h0, h1]; rfl
theorem s36 (h : W (Proc.devRef .tc main_v23) = val_main_v74 (F := Ideal)) :
    StableHlo.after hostOps1_2 W (Proc.devRef .tc main_v36) = val_main_v87 (F := Ideal) := by
  after_results; rw [h]; rfl
theorem s37 (h0 : W (Proc.devRef .tc main_cst_4) = constant (F := Ideal) S_ .f32 0xC2000000#32) (h1 : W (Proc.devRef .tc main_cst_5) = constant (F := Ideal) S_ .f32 0x42000000#32) :
    StableHlo.after hostOps1_3 W (Proc.devRef .tc main_v37) = val_main_v97 (F := Ideal) := by
  after_results; rw [h0, h1]; rfl
theorem s58 (h0 : W (Proc.devRef .tc main_cst_9) = constant (F := Ideal) S_ .f32 0xC1800000#32) (h1 : W (Proc.devRef .tc main_cst_10) = constant (F := Ideal) S_ .f32 0x41800000#32) :
    StableHlo.after hostOps1_5 W (Proc.devRef .tc main_v58) = val_main_v120 (F := Ideal) := by
  after_results; rw [h0, h1]; rfl

/-- The indicator of the 32 bins, one row per position. -/
def hot32 : FVec Ideal S4096x32 .f32 :=
  uitofp .f32 (cmpi .eq
    (broadcastInDim S4096x32 ![0, 1] bcast_S4096x1_S4096x32_0_1 (shapeCast S4096x1 (val_main_v110 (F := Ideal)) shapeCasts_S64x64_S4096x1))
    (broadcastInDim S4096x32 ![0, 1] bcast_S1x32_S4096x32_0_1 (shapeCast S1x32 (iotaInDim S32 32 0) shapeCasts_S32_S1x32)))
/-- The indicator of the 16 bins, one row per position. -/
def hot16 : FVec Ideal S1024x16 .f32 :=
  uitofp .f32 (cmpi .eq
    (broadcastInDim S1024x16 ![0, 1] bcast_S1024x1_S1024x16_0_1 (shapeCast S1024x1 (val_main_v133 (F := Ideal)) shapeCasts_S32x32_S1024x1))
    (broadcastInDim S1024x16 ![0, 1] bcast_S1x16_S1024x16_0_1 (shapeCast S1x16 (iotaInDim S16 32 0) shapeCasts_S16_S1x16)))

theorem s57 (h : W (Proc.devRef .tc main_v37) = val_main_v97 (F := Ideal)) :
    StableHlo.after hostOps1_4 W (Proc.devRef .tc main_v57) = hot32 := by
  after_results; rw [h]; rfl
theorem s78 (h : W (Proc.devRef .tc main_v58) = val_main_v120 (F := Ideal)) :
    StableHlo.after hostOps1_6 W (Proc.devRef .tc main_v78) = hot16 := by
  after_results; rw [h]; rfl

end Stretch

theorem hot32_apply (q r : Fin 64) (k : Fin 32) (p) :
    (hot32 (ix2 ⟨(q : ℕ) * 64 + r, p⟩ k) : EReal) = FloatOps.uitofp (F := Ideal) .f32 (IntOp.cmpi .eq (val_main_v110 (F := Ideal) (ix2 q r)) (BitVec.ofNat 32 k)) := by
  unfold hot32
  generalize val_main_v110 (F := Ideal) = X
  pointwise []
theorem hot16_apply (q r : Fin 32) (k : Fin 16) (p) :
    (hot16 (ix2 ⟨(q : ℕ) * 32 + r, p⟩ k) : EReal) = FloatOps.uitofp (F := Ideal) .f32 (IntOp.cmpi .eq (val_main_v133 (F := Ideal) (ix2 q r)) (BitVec.ofNat 32 k)) := by
  unfold hot16
  generalize val_main_v133 (F := Ideal) = X
  pointwise []

section Tables
variable (A : FVec Ideal S128x768 .f32) (B : FVec Ideal S128x1536 .f32)

/-- The 32-bin tables of both stages, transposed and put side by side. -/
def tab32 : FVec Ideal S32x3072 .f32 :=
  concatenate S32x3072 1
    [⟨S32x2048, shapeCast S32x2048 (transpose S32x16x128 [2, 1, 0] (shapeCast S128x16x32 (extractStridedSlice S128x512 ![0, 512] B slices_S128x1536_S128x512_0_512) shapeCasts_S128x512_S128x16x32) transposes_S128x16x32_S32x16x128_2_1_0) shapeCasts_S32x16x128_S32x2048⟩,
     ⟨S32x1024, shapeCast S32x1024 (transpose S32x8x128 [2, 1, 0] (shapeCast S128x8x32 (extractStridedSlice S128x256 ![0, 256] A slices_S128x768_S128x256_0_256) shapeCasts_S128x256_S128x8x32) transposes_S128x8x32_S32x8x128_2_1_0) shapeCasts_S32x8x128_S32x1024⟩]
    concatenates_S32x2048_S32x1024_S32x3072_d1
/-- The 16-bin tables of both stages, transposed and put side by side. -/
def tab16 : FVec Ideal S16x6144 .f32 :=
  concatenate S16x6144 1
    [⟨S16x4096, shapeCast S16x4096 (transpose S16x32x128 [2, 1, 0] (shapeCast S128x32x16 (extractStridedSlice S128x512 ![0, 1024] B slices_S128x1536_S128x512_0_1024) shapeCasts_S128x512_S128x32x16) transposes_S128x32x16_S16x32x128_2_1_0) shapeCasts_S16x32x128_S16x4096⟩,
     ⟨S16x2048, shapeCast S16x2048 (transpose S16x16x128 [2, 1, 0] (shapeCast S128x16x16 (extractStridedSlice S128x256 ![0, 512] A slices_S128x768_S128x256_0_512) shapeCasts_S128x256_S128x16x16) transposes_S128x16x16_S16x16x128_2_1_0) shapeCasts_S16x16x128_S16x2048⟩]
    concatenates_S16x4096_S16x2048_S16x6144_d1
/-- The 64-bin table of the first stage. -/
def row4 : FVec Ideal S512x64 .f32 := shapeCast S512x64 (extractStridedSlice S128x256 ![0, 0] A slices_S128x768_S128x256_0_0) shapeCasts_S128x256_S512x64
/-- The 64-bin table of the second stage. -/
def row8 : FVec Ideal S1024x64 .f32 := shapeCast S1024x64 (extractStridedSlice S128x512 ![0, 0] B slices_S128x1536_S128x512_0_0) shapeCasts_S128x512_S1024x64

theorem s1 (W : Valuation τ sig (Elt Ideal)) (hA : W (Proc.devRef .tc main_v0_0) = A) (hB : W (Proc.devRef .tc main_v0_1) = B) :
    StableHlo.after hostOps1 W (Proc.devRef .tc main_v9) = tab32 A B ∧ StableHlo.after hostOps1 W (Proc.devRef .tc main_v18) = tab16 A B
    ∧ StableHlo.after hostOps1 W (Proc.devRef .tc main_v20) = row4 A ∧ StableHlo.after hostOps1 W (Proc.devRef .tc main_v22) = row8 B := by
  subst hA hB
  refine ⟨?_, ?_, ?_, ?_⟩ <;> (after_results; rfl)

theorem tab32_lo (k : Fin 32) (p : Fin 16) (b : Fin 128) (h) : (tab32 A B (ix2 k ⟨(p : ℕ) * 128 + b, h⟩) : EReal) = B (ix2 b ⟨512 + (p * 32 + k), by omega⟩) := by
  unfold tab32; pointwise []; rw [dif_pos (by omega)]
theorem tab32_hi (k : Fin 32) (p : Fin 8) (b : Fin 128) (h) : (tab32 A B (ix2 k ⟨2048 + ((p : ℕ) * 128 + b), h⟩) : EReal) = A (ix2 b ⟨256 + (p * 32 + k), by omega⟩) := by
  unfold tab32; pointwise []
set_option maxRecDepth 200000 in
theorem tab16_lo (k : Fin 16) (p : Fin 32) (b : Fin 128) (h) : (tab16 A B (ix2 k ⟨(p : ℕ) * 128 + b, h⟩) : EReal) = B (ix2 b ⟨1024 + (p * 16 + k), by omega⟩) := by
  unfold tab16; pointwise []; rw [dif_pos (by omega)]
theorem tab16_hi (k : Fin 16) (p : Fin 16) (b : Fin 128) (h) : (tab16 A B (ix2 k ⟨4096 + ((p : ℕ) * 128 + b), h⟩) : EReal) = A (ix2 b ⟨512 + (p * 16 + k), by omega⟩) := by
  unfold tab16; pointwise []
theorem row4_apply (b : Fin 128) (p : Fin 4) (k : Fin 64) (h) : (row4 A (ix2 ⟨(b : ℕ) * 4 + p, h⟩ k) : EReal) = A (ix2 b ⟨p * 64 + k, by omega⟩) := by
  unfold row4; pointwise []; exact congrArg A (congrArg (ix2 b) (Fin.ext (by show ((b : ℕ) * 4 + p) % 4 * 64 + k = p * 64 + k; omega)))
theorem row8_apply (b : Fin 128) (p : Fin 8) (k : Fin 64) (h) : (row8 B (ix2 ⟨(b : ℕ) * 8 + p, h⟩ k) : EReal) = B (ix2 b ⟨p * 64 + k, by omega⟩) := by
  unfold row8; pointwise []; exact congrArg B (congrArg (ix2 b) (Fin.ext (by show ((b : ℕ) * 8 + p) % 8 * 64 + k = p * 64 + k; omega)))
end Tables

variable (m : (ℓ : Loc nD τ sig) → Buf (Elt Ideal) ℓ) (ρ : Dev nD → PrngReg) (c : Dev nD)

theorem kv_eq : W1 m ρ c (Proc.devRef .tc main_v0_0) = Region0.KV m c :=
  (W1_arr m ρ c 13).trans (Region0.final13 m ρ c)
theorem kvb_eq : W1 m ρ c (Proc.devRef .tc main_v0_1) = Region0.KVB m c :=
  (W1_arr m ρ c 14).trans (Region0.final14 m ρ c)

theorem v36 : V8 m ρ c main_v36 = val_main_v87 (F := Ideal) :=
  (W8_of m ρ c main_v36 (by decide)).trans <| (W7_of m ρ c main_v36 (by decide)).trans <| (W6_of m ρ c main_v36 (by decide)).trans <|
  (W5_of m ρ c main_v36 (by decide)).trans <| s36 _ <| s23 _ (by show StableHlo.after hostOps1 _ _ = _; after_results) (by show StableHlo.after hostOps1 _ _ = _; after_results)
theorem v57 : V8 m ρ c main_v57 = hot32 :=
  (W8_of m ρ c main_v57 (by decide)).trans <| (W7_of m ρ c main_v57 (by decide)).trans <| s57 _ <| s37 _
    (by show StableHlo.after hostOps1_2 _ _ = _; after_results) (by show StableHlo.after hostOps1_2 _ _ = _; after_results)
theorem v78 : V8 m ρ c main_v78 = hot16 :=
  s78 _ <| s58 _ (by show StableHlo.after hostOps1_4 _ _ = _; after_results) (by show StableHlo.after hostOps1_4 _ _ = _; after_results)

/-- A buffer of the first stretch the later ones leave alone. -/
theorem keep (r : Ref sig .tc) (h1 : r ∉ hostOps1_1_W) (h2 : r ∉ hostOps1_2_W) (h3 : r ∉ hostOps1_3_W) (h4 : r ∉ hostOps1_4_W) (h5 : r ∉ hostOps1_5_W) (h6 : r ∉ hostOps1_6_W) :
    V8 m ρ c r = StableHlo.after hostOps1 (W1 m ρ c) (Proc.devRef .tc r) :=
  (W8_of m ρ c r h6).trans <| (W7_of m ρ c r h5).trans <| (W6_of m ρ c r h4).trans <| (W5_of m ρ c r h3).trans <| (W4_of m ρ c r h2).trans <| W3_of m ρ c r h1
theorem v9 : V8 m ρ c main_v9 = tab32 (Region0.KV m c) (Region0.KVB m c) :=
  (keep m ρ c main_v9 (by decide) (by decide) (by decide) (by decide) (by decide) (by decide)).trans (s1 _ _ _ (kv_eq m ρ c) (kvb_eq m ρ c)).1
theorem v18 : V8 m ρ c main_v18 = tab16 (Region0.KV m c) (Region0.KVB m c) :=
  (keep m ρ c main_v18 (by decide) (by decide) (by decide) (by decide) (by decide) (by decide)).trans (s1 _ _ _ (kv_eq m ρ c) (kvb_eq m ρ c)).2.1
theorem v20 : V8 m ρ c main_v20 = row4 (Region0.KV m c) :=
  (keep m ρ c main_v20 (by decide) (by decide) (by decide) (by decide) (by decide) (by decide)).trans (s1 _ _ _ (kv_eq m ρ c) (kvb_eq m ρ c)).2.2.1
theorem v22 : V8 m ρ c main_v22 = row8 (Region0.KVB m c) :=
  (keep m ρ c main_v22 (by decide) (by decide) (by decide) (by decide) (by decide) (by decide)).trans (s1 _ _ _ (kv_eq m ρ c) (kvb_eq m ρ c)).2.2.2
end Cert.KernelIdeal.Host
end
-- ==== Proof.Bins.lean ====
/- The bin of every position is below the number of bins, at each of the three sizes. -/
module
public import proofs.«01_k».proof.Proof.Mlp
public import Idealize.ShloMosaic.Lib.WordCmp
@[expose] public section
set_option maxRecDepth 16384
noncomputable section
namespace Cert.Bins
open Idealize.ShloMosaic Idealize.ShloMosaic.TcCoe Idealize.SL.Sem
open Cert.ReferenceIdeal Cert.ReferenceIdeal.Gen Cert.ReferenceIdeal.Read

/-- A position a nonnegative multiple of the bin width away from the origin falls in one of the `L` bins: the width is
    the greatest distance divided by `L`, made a little larger. -/
theorem bin_lt (L : ℕ) (hL : 0 < L) (hL' : L ≤ 64) (d M e : ℝ) (hd : 0 ≤ d) (hdM : d ≤ M) (he : 0 < e) :
    (FloatOps.fptosi (F := Ideal) (φ := .f32) 32 (FloatOps.hostUnary .floor (FloatOps.hostDivf ((d : ℝ) : EReal)
      (FloatOps.addf (FloatOps.hostDivf ((M : ℝ) : EReal) ((L : ℝ) : EReal)) ((e : ℝ) : EReal))))).toNat < L := by
  have hLr : (0 : ℝ) < L := by exact_mod_cast hL
  have hw : 0 < M / L + e := by have : 0 ≤ M / L := div_nonneg (hd.trans hdM) hLr.le; linarith
  have hq0 : 0 ≤ d / (M / L + e) := div_nonneg hd hw.le
  have hq1 : d / (M / L + e) < L := by
    rw [div_lt_iff₀ hw, mul_add, mul_div_cancel₀ _ hLr.ne']
    have : 0 < (L : ℝ) * e := mul_pos hLr he
    linarith
  have e1 : (FloatOps.hostDivf (F := Ideal) (φ := .f32) ((d : ℝ) : EReal)
      (FloatOps.addf (FloatOps.hostDivf ((M : ℝ) : EReal) ((L : ℝ) : EReal)) ((e : ℝ) : EReal)) : EReal) = ((d / (M / L + e) : ℝ) : EReal) := by
    show Ideal.div ((d : ℝ) : EReal) (Ideal.div ((M : ℝ) : EReal) ((L : ℝ) : EReal) + ((e : ℝ) : EReal)) = _
    rw [Ideal.div_coe hLr.ne', ← EReal.coe_mul, ← EReal.coe_add, mul_one_div, Ideal.div_coe hw.ne', ← EReal.coe_mul, mul_one_div]
  have hf0 : 0 ≤ ⌊d / (M / L + e)⌋ := Int.floor_nonneg.mpr hq0
  have hf1 : ⌊d / (M / L + e)⌋ < L := by
    rw [Int.floor_lt]; exact_mod_cast hq1
  rw [e1]
  generalize d / (M / L + e) = q at *
  show (Ideal.fptosi 32 (Ideal.liftRound Int.floor (q : EReal))).toNat < L
  have hfr : (0 : ℝ) ≤ (⌊q⌋ : ℝ) := by exact_mod_cast hf0
  rw [Ideal.liftRound_coe, Ideal.fptosi, Ideal.toIntClamped_coe, if_pos hfr, Int.floor_intCast]
  obtain ⟨n, hn⟩ := Int.eq_ofNat_of_zero_le hf0
  rw [hn] at hf1 ⊢
  have hn' : n < L := by exact_mod_cast hf1
  rw [min_eq_right (by norm_num; omega), max_eq_right (by norm_num), BitVec.ofInt_natCast, BitVec.toNat_ofNat]
  omega

/-- The greatest of finitely many nonnegative reals is a nonnegative real no smaller than any. -/
theorem max_real {s t u : Shape} {axes : List (Fin s.rank)} (x : s.Idx → EReal) (init : u.Idx → EReal) (h : s.ReducesTo axes t) (hu : 0 < u.numel) (j : t.Idx)
    (i₀ : s.Idx) (hj : ∀ i, h.drop i = j) (hb : ∀ i, init i = ⊥) (hx : ∀ i, ∃ r : ℝ, 0 ≤ r ∧ x i = (r : EReal)) :
    ∃ M : ℝ, Host.reduce (FloatOps.maximumf (F := Ideal) (φ := .f32)) x init h hu j = (M : EReal) ∧ ∀ i, x i ≤ (M : EReal) := by
  have hR : Host.reduce (FloatOps.maximumf (F := Ideal) (φ := .f32)) x init h hu j
      = (Finset.univ.filter fun i => h.drop i = j).fold max (init (Shape.Idx.first hu)) x :=
    Host.reduce_eq_fold max x init h hu j
  have hle : ∀ i, x i ≤ (Finset.univ.filter fun i => h.drop i = j).fold max (init (Shape.Idx.first hu)) x := fun i =>
    (Finset.le_fold_max _).mpr (Or.inr ⟨i, by simp [hj], le_refl _⟩)
  have htop : (Finset.univ.filter fun i => h.drop i = j).fold max (init (Shape.Idx.first hu)) x < ⊤ :=
    (Finset.fold_max_lt _).mpr ⟨by rw [hb]; exact bot_lt_top, fun i _ => by obtain ⟨r, _, e⟩ := hx i; rw [e]; exact EReal.coe_lt_top r⟩
  rw [hR]
  obtain ⟨r, _, e⟩ := hx i₀
  have hbot : (Finset.univ.filter fun i => h.drop i = j).fold max (init (Shape.Idx.first hu)) x ≠ ⊥ := by
    intro hc; have := hle i₀; rw [hc, e] at this; exact (not_le_of_gt (EReal.bot_lt_coe r)) this
  exact ⟨_, (EReal.coe_toReal htop.ne hbot).symm, fun i => by rw [EReal.coe_toReal htop.ne hbot]; exact hle i⟩

/-- A point's distance from the origin is a nonnegative real. -/
theorem dist_real (a b : EReal) (ha : ∃ r : ℝ, a = r) (hb : ∃ r : ℝ, b = r) :
    ∃ r : ℝ, 0 ≤ r ∧ FloatOps.hostUnary (F := Ideal) (φ := .f32) .sqrt (FloatOps.addf (FloatOps.mulf a a) (FloatOps.mulf b b)) = (r : EReal) := by
  obtain ⟨x, rfl⟩ := ha
  obtain ⟨y, rfl⟩ := hb
  refine ⟨Real.sqrt (x * x + y * y), Real.sqrt_nonneg _, ?_⟩
  show Ideal.sqrt (((x : ℝ) : EReal) * x + (y : EReal) * y) = _
  rw [← EReal.coe_mul, ← EReal.coe_mul, ← EReal.coe_add, Ideal.sqrt_coe, if_neg (by nlinarith [mul_self_nonneg x, mul_self_nonneg y])]

/-- One of the equally spaced numbers is a real. -/
theorem lin_real (a b d : EReal) (n : ℕ) (ha : ∃ r : ℝ, a = r) (hb : ∃ r : ℝ, b = r) (hd : ∃ r : ℝ, r ≠ 0 ∧ d = r) (hn : n < 2 ^ 31) :
    ∃ r : ℝ, a * (1 - Ideal.div (FloatOps.sitofp (F := Ideal) FTy.f32 (BitVec.ofNat 32 n)) d)
      + b * Ideal.div (FloatOps.sitofp (F := Ideal) FTy.f32 (BitVec.ofNat 32 n)) d = (r : EReal) := by
  obtain ⟨x, rfl⟩ := ha
  obtain ⟨y, rfl⟩ := hb
  obtain ⟨z, hz, rfl⟩ := hd
  rw [Cert.Mlp.sitofp_nat n hn, Ideal.div_coe hz, show (1 : EReal) = ((1 : ℝ) : EReal) from rfl]
  simp only [← EReal.coe_mul, ← EReal.coe_sub, ← EReal.coe_add]
  exact ⟨_, rfl⟩

/-- The amount the bin width is enlarged by is a positive real. -/
theorem eps_word : ∃ e : ℝ, 0 < e ∧ Ideal.ofBits .f32 0x38D1B717#32 = (e : EReal) := by
  refine ⟨13743895 / 137438953472, by norm_num, ?_⟩
  simp [Ideal.ofBits, Ideal.ieee, -EReal.coe_mul]; norm_num

theorem ninf_word : Ideal.ofBits .f32 0xFF800000#32 = ⊥ := by
  simp [Ideal.ofBits, Ideal.ieee]

/-! The grid of 128 by 128 positions, cut into 64 bins. -/

theorem lo64 : ∃ r : ℝ, Ideal.ofBits .f32 0xC2800000#32 = (r : EReal) := ⟨-64, by simp [Ideal.ofBits, Ideal.ieee, -EReal.coe_mul]; norm_num⟩
theorem hi64 : Ideal.ofBits .f32 0x42800000#32 = (((64 : ℕ) : ℝ) : EReal) := by simp [Ideal.ofBits, Ideal.ieee, -EReal.coe_mul]; norm_num
theorem den64 : ∃ r : ℝ, r ≠ 0 ∧ Ideal.ofBits .f32 0x42FE0000#32 = (r : EReal) := ⟨127, by norm_num, by simp [Ideal.ofBits, Ideal.ieee, -EReal.coe_mul]; norm_num⟩

/-- The coordinates are reals. -/
theorem coord64 (i : S128.Idx) : ∃ r : ℝ, (val_main_v74 (F := Ideal) i : EReal) = (r : EReal) := by
  obtain ⟨i, rfl⟩ : ∃ k, i = ix1 k := ⟨i 0, ValueIdx.eq_ix1 i⟩
  pointwise [val_main_v74, val_main_call1_v15, val_main_call1_v16, val_main_call1_v14, val_main_call1_v13, val_main_call1_v12, val_main_call1_v11, val_main_call1_v10, val_main_call1_v9, val_main_call1_v8, val_main_call1_v7, val_main_call1_v6, val_main_call1_v5, val_main_call1_v4, val_main_call1_v1, val_main_call1_v0, val_main_call1_cst_0, val_main_call1_cst_1, val_main_cst_12, val_main_cst_13]
  split
  · exact lin_real _ _ _ _ lo64 ⟨_, hi64⟩ den64 (by omega)
  · exact ⟨_, hi64⟩

/-- The distances are nonnegative reals. -/
theorem dist64 (i : S128x128.Idx) : ∃ r : ℝ, 0 ≤ r ∧ (val_main_v80 (F := Ideal) i : EReal) = (r : EReal) := by
  rw [val_main_v80_apply, val_main_v79_apply, val_main_v77_apply, val_main_v78_apply, val_main_v75_apply, val_main_v76_apply]
  exact dist_real _ _ (coord64 _) (coord64 _)

/-- Every position's bin is one of the 64. -/
theorem lt64 (i : S128x128.Idx) : (val_main_v87 (F := Ideal) i).toNat < 64 := by
  obtain ⟨M, hM, hle⟩ := max_real (val_main_v80 (F := Ideal)) (val_main_cst_14 (F := Ideal)) reducesTo_S128x128_S_d0_1 h_S_ (idx_main_v84 i) i
    (fun _ => funext fun a => a.elim0) (fun _ => ninf_word) dist64
  obtain ⟨d, hd0, hd⟩ := dist64 i
  obtain ⟨e, he0, he⟩ := eps_word
  have hdM : d ≤ M := by have := hle i; rw [hd] at this; exact_mod_cast this
  have h := bin_lt 64 (by norm_num) (by norm_num) d M e hd0 hdM he0
  have hM' : val_main_v81 (F := Ideal) (idx_main_v84 i) = (M : EReal) := hM
  rw [val_main_v87_apply, val_main_v86_apply, val_main_v85_apply, val_main_v84_apply, val_main_v83_apply, val_main_v82_apply, hM', hd, val_main_cst_15_apply, val_main_cst_16_apply,
    show FloatOps.ofBits (F := Ideal) .f32 0x38D1B717#32 = (e : EReal) from he, show FloatOps.ofBits (F := Ideal) .f32 0x42800000#32 = (((64 : ℕ) : ℝ) : EReal) from hi64]
  exact h

/-! The grid of 64 by 64 positions, cut into 32 bins. -/

theorem lo32 : ∃ r : ℝ, Ideal.ofBits .f32 0xC2000000#32 = (r : EReal) := ⟨-32, by simp [Ideal.ofBits, Ideal.ieee, -EReal.coe_mul]; norm_num⟩
theorem hi32 : Ideal.ofBits .f32 0x42000000#32 = (((32 : ℕ) : ℝ) : EReal) := by simp [Ideal.ofBits, Ideal.ieee, -EReal.coe_mul]; norm_num
theorem den32 : ∃ r : ℝ, r ≠ 0 ∧ Ideal.ofBits .f32 0x427C0000#32 = (r : EReal) := ⟨63, by norm_num, by simp [Ideal.ofBits, Ideal.ieee, -EReal.coe_mul]; norm_num⟩

/-- The coordinates are reals. -/
theorem coord32 (i : S64.Idx) : ∃ r : ℝ, (val_main_v97 (F := Ideal) i : EReal) = (r : EReal) := by
  obtain ⟨i, rfl⟩ : ∃ k, i = ix1 k := ⟨i 0, ValueIdx.eq_ix1 i⟩
  pointwise [val_main_v97, val_main_call4_v15, val_main_call4_v16, val_main_call4_v14, val_main_call4_v13, val_main_call4_v12, val_main_call4_v11, val_main_call4_v10, val_main_call4_v9, val_main_call4_v8, val_main_call4_v7, val_main_call4_v6, val_main_call4_v5, val_main_call4_v4, val_main_call4_v1, val_main_call4_v0, val_main_call4_cst_0, val_main_call4_cst_1, val_main_cst_20, val_main_cst_21]
  split
  · exact lin_real _ _ _ _ lo32 ⟨_, hi32⟩ den32 (by omega)
  · exact ⟨_, hi32⟩

/-- The distances are nonnegative reals. -/
theorem dist32 (i : S64x64.Idx) : ∃ r : ℝ, 0 ≤ r ∧ (val_main_v103 (F := Ideal) i : EReal) = (r : EReal) := by
  rw [val_main_v103_apply, val_main_v102_apply, val_main_v100_apply, val_main_v101_apply, val_main_v98_apply, val_main_v99_apply]
  exact dist_real _ _ (coord32 _) (coord32 _)

/-- Every position's bin is one of the 32. -/
theorem lt32 (i : S64x64.Idx) : (val_main_v110 (F := Ideal) i).toNat < 32 := by
  obtain ⟨M, hM, hle⟩ := max_real (val_main_v103 (F := Ideal)) (val_main_cst_22 (F := Ideal)) reducesTo_S64x64_S_d0_1 h_S_ (idx_main_v107 i) i
    (fun _ => funext fun a => a.elim0) (fun _ => ninf_word) dist32
  obtain ⟨d, hd0, hd⟩ := dist32 i
  obtain ⟨e, he0, he⟩ := eps_word
  have hdM : d ≤ M := by have := hle i; rw [hd] at this; exact_mod_cast this
  have h := bin_lt 32 (by norm_num) (by norm_num) d M e hd0 hdM he0
  have hM' : val_main_v104 (F := Ideal) (idx_main_v107 i) = (M : EReal) := hM
  rw [val_main_v110_apply, val_main_v109_apply, val_main_v108_apply, val_main_v107_apply, val_main_v106_apply, val_main_v105_apply, hM', hd, val_main_cst_23_apply, val_main_cst_24_apply,
    show FloatOps.ofBits (F := Ideal) .f32 0x38D1B717#32 = (e : EReal) from he, show FloatOps.ofBits (F := Ideal) .f32 0x42000000#32 = (((32 : ℕ) : ℝ) : EReal) from hi32]
  exact h

/-! The grid of 32 by 32 positions, cut into 16 bins. -/

theorem lo16 : ∃ r : ℝ, Ideal.ofBits .f32 0xC1800000#32 = (r : EReal) := ⟨-16, by simp [Ideal.ofBits, Ideal.ieee, -EReal.coe_mul]; norm_num⟩
theorem hi16 : Ideal.ofBits .f32 0x41800000#32 = (((16 : ℕ) : ℝ) : EReal) := by simp [Ideal.ofBits, Ideal.ieee, -EReal.coe_mul]; norm_num
theorem den16 : ∃ r : ℝ, r ≠ 0 ∧ Ideal.ofBits .f32 0x41F80000#32 = (r : EReal) := ⟨31, by norm_num, by simp [Ideal.ofBits, Ideal.ieee, -EReal.coe_mul]; norm_num⟩

/-- The coordinates are reals. -/
theorem coord16 (i : S32.Idx) : ∃ r : ℝ, (val_main_v120 (F := Ideal) i : EReal) = (r : EReal) := by
  obtain ⟨i, rfl⟩ : ∃ k, i = ix1 k := ⟨i 0, ValueIdx.eq_ix1 i⟩
  pointwise [val_main_v120, val_main_call7_v15, val_main_call7_v16, val_main_call7_v14, val_main_call7_v13, val_main_call7_v12, val_main_call7_v11, val_main_call7_v10, val_main_call7_v9, val_main_call7_v8, val_main_call7_v7, val_main_call7_v6, val_main_call7_v5, val_main_call7_v4, val_main_call7_v1, val_main_call7_v0, val_main_call7_cst_0, val_main_call7_cst_1, val_main_cst_28, val_main_cst_29]
  split
  · exact lin_real _ _ _ _ lo16 ⟨_, hi16⟩ den16 (by omega)
  · exact ⟨_, hi16⟩

/-- The distances are nonnegative reals. -/
theorem dist16 (i : S32x32.Idx) : ∃ r : ℝ, 0 ≤ r ∧ (val_main_v126 (F := Ideal) i : EReal) = (r : EReal) := by
  rw [val_main_v126_apply, val_main_v125_apply, val_main_v123_apply, val_main_v124_apply, val_main_v121_apply, val_main_v122_apply]
  exact dist_real _ _ (coord16 _) (coord16 _)

/-- Every position's bin is one of the 16. -/
theorem lt16 (i : S32x32.Idx) : (val_main_v133 (F := Ideal) i).toNat < 16 := by
  obtain ⟨M, hM, hle⟩ := max_real (val_main_v126 (F := Ideal)) (val_main_cst_30 (F := Ideal)) reducesTo_S32x32_S_d0_1 h_S_ (idx_main_v130 i) i
    (fun _ => funext fun a => a.elim0) (fun _ => ninf_word) dist16
  obtain ⟨d, hd0, hd⟩ := dist16 i
  obtain ⟨e, he0, he⟩ := eps_word
  have hdM : d ≤ M := by have := hle i; rw [hd] at this; exact_mod_cast this
  have h := bin_lt 16 (by norm_num) (by norm_num) d M e hd0 hdM he0
  have hM' : val_main_v127 (F := Ideal) (idx_main_v130 i) = (M : EReal) := hM
  rw [val_main_v133_apply, val_main_v132_apply, val_main_v131_apply, val_main_v130_apply, val_main_v129_apply, val_main_v128_apply, hM', hd, val_main_cst_31_apply, val_main_cst_32_apply,
    show FloatOps.ofBits (F := Ideal) .f32 0x38D1B717#32 = (e : EReal) from he, show FloatOps.ofBits (F := Ideal) .f32 0x41800000#32 = (((16 : ℕ) : ℝ) : EReal) from hi16]
  exact h

end Cert.Bins
end
-- ==== Proof.Take.lean ====
/- The lookups of the reference: each of its six results is an entry of the distance features, read at the position's bin. -/
module
public import proofs.«01_k».proof.Proof.Bins
public import Idealize.ShloMosaic.Lib.Pipeline.ValueKit
@[expose] public section
set_option maxRecDepth 16384
noncomputable section
namespace Cert.Take
open Idealize.ShloMosaic Idealize.ShloMosaic.TcCoe Idealize.SL.Sem
open Cert.ReferenceIdeal Cert.ReferenceIdeal.Gen Cert.ReferenceIdeal.Read Cert.Bins

/-- The dimension numbers of a gather along the last of three axes at a square array of positions. -/
abbrev lastDims (B C L I : ℕ) (wf : GatherDims.WF ⟨3, ![B, C, L]⟩ ⟨3, ![I, I, 1]⟩ ⟨4, ![B, C, I, I]⟩ [0, 1] [2] [] [2] [] 2 ![B, C, 1]) :
    GatherDims ⟨3, ![B, C, L]⟩ ⟨3, ![I, I, 1]⟩ ⟨4, ![B, C, I, I]⟩ where
  offsetDims := [0, 1]
  collapsedSliceDims := [2]
  operandBatchingDims := []
  startIndicesBatchingDims := []
  startIndexMap := [2]
  indexVectorDim := 2
  sliceSizes := ![B, C, 1]
  wf := wf

/-- That gather at one of its elements, the start index being in range. -/
theorem gather_last {B C L I : ℕ} {α : Type} (wf) (x : (⟨3, ![B, C, L]⟩ : Shape).Idx → α) (idx : IVec ⟨3, ![I, I, 1]⟩ 32)
    (b : Fin B) (c : Fin C) (i j : Fin I) (hL : L ≤ 64) (hw : (idx (ix3 i j 0)).toNat < L) :
    Host.gather (lastDims B C L I wf) x idx (ix4 b c i j) = x (ix3 b c ⟨(idx (ix3 i j 0)).toNat, hw⟩) := by
  unfold Host.gather
  refine congrArg x (funext fun a => Fin.ext ?_)
  show (lastDims B C L I wf).start (ix4 b c i j) idx a + (lastDims B C L I wf).batchCoord (ix4 b c i j) a + (lastDims B C L I wf).offCoord (ix4 b c i j) a = _
  rw [GatherDims.batchCoord_eq_zero _ _ _ List.not_mem_nil, Nat.add_zero]
  match a with
  | ⟨0, hk⟩ =>
    have hm : (⟨0, hk⟩ : Fin (Shape.rank ⟨3, ![B, C, L]⟩)) ∉ (lastDims B C L I wf).startIndexMap := (by decide : (0 : Fin 3) ∉ ([2] : List (Fin 3)))
    unfold GatherDims.start
    rw [dif_neg hm]
    exact Nat.zero_add _
  | ⟨1, hk⟩ =>
    have hm : (⟨1, hk⟩ : Fin (Shape.rank ⟨3, ![B, C, L]⟩)) ∉ (lastDims B C L I wf).startIndexMap := (by decide : (1 : Fin 3) ∉ ([2] : List (Fin 3)))
    unfold GatherDims.start
    rw [dif_neg hm]
    exact Nat.zero_add _
  | ⟨2, hk⟩ =>
    have hm : (⟨2, hk⟩ : Fin (Shape.rank ⟨3, ![B, C, L]⟩)) ∈ (lastDims B C L I wf).startIndexMap := (by decide : (2 : Fin 3) ∈ ([2] : List (Fin 3)))
    rw [GatherDims.offCoord_eq_zero _ _ _ (fun h => ((GatherDims.mem_sKept _ _).mp h).1 (List.mem_singleton.mpr rfl)), Nat.add_zero]
    unfold GatherDims.start
    rw [dif_pos hm]
    have hsi : ∀ p, (lastDims B C L I wf).siIdx (ix4 b c i j) ⟨List.idxOf (2 : Fin 3) (lastDims B C L I wf).startIndexMap, p⟩ = ix3 i j 0 := fun p => by
      funext b; refine Fin.ext ?_
      match b with
      | ⟨0, _⟩ => rfl
      | ⟨1, _⟩ => rfl
      | ⟨2, _⟩ => rfl
    show min (idx ((lastDims B C L I wf).siIdx (ix4 b c i j) ⟨List.idxOf (2 : Fin 3) (lastDims B C L I wf).startIndexMap, _⟩)).toInt.toNat (L - 1) = (idx (ix3 i j 0)).toNat
    rw [hsi, BitVec.toInt_eq_toNat_of_lt (by omega), Int.toNat_natCast]
    omega

/-- The conjunction of ones is one. -/
theorem and_all {s t u : Shape} {axes : List (Fin s.rank)} (x : s.Idx → BitVec 1) (init : u.Idx → BitVec 1) (h : s.ReducesTo axes t) (hu : 0 < u.numel) (j : t.Idx)
    (h0 : ∀ i, init i = 1#1) (hx : ∀ i, x i = 1#1) : Host.reduce IntOp.andi x init h hu j = 1#1 := by
  rw [Host.reduce_eq_foldl, h0]
  induction ((List.finRange s.numel).map s.rowMajor.symm).filter (fun i => decide (h.drop i = j)) with
  | nil => rfl
  | cons a l ih => rw [List.foldl_cons, hx]; exact ih

section Word
variable (w n : BitVec 32) (hn : n.toNat ≤ 64) (hw : w.toNat < n.toNat)
include hn hw

theorem int_w : w.toInt = w.toNat := BitVec.toInt_eq_toNat_of_lt (by omega)
theorem int_n : n.toInt = n.toNat := BitVec.toInt_eq_toNat_of_lt (by omega)
/-- A bin is below the number of bins. -/
theorem lt_one : IntOp.cmpi CmpIPredicate.slt w n = 1#1 := by
  simp only [IntOp.cmpi, BitVec.slt]
  rw [int_w w n hn hw, int_n w n hn hw, decide_eq_true (by omega)]; rfl
/-- A bin is not below zero. -/
theorem ge_one : IntOp.cmpi CmpIPredicate.sge w 0#32 = 1#1 := by
  simp only [IntOp.cmpi, BitVec.sle]
  rw [int_w w n hn hw, decide_eq_true (by simp)]; rfl
/-- A bin is at most the last bin. -/
theorem le_one (k : BitVec 32) (hk : k.toNat + 1 = n.toNat) : IntOp.cmpi CmpIPredicate.sle w k = 1#1 := by
  simp only [IntOp.cmpi, BitVec.sle]
  rw [int_w w n hn hw, BitVec.toInt_eq_toNat_of_lt (by omega), decide_eq_true (by omega)]; rfl
/-- A bin is unchanged by clipping to the bins. -/
theorem clip (k : BitVec 32) (hk : k.toNat + 1 = n.toNat) : IntOp.minsi k (IntOp.maxsi 0#32 w) = w := by
  have h1 : IntOp.maxsi 0#32 w = w := by
    have : w.slt 0#32 = false := by rw [BitVec.slt, int_w w n hn hw, decide_eq_false (by simp)]
    simp only [IntOp.maxsi, this, Bool.false_eq_true, if_false]
  have h2 : k.slt w = false := by
    rw [BitVec.slt, int_w w n hn hw, BitVec.toInt_eq_toNat_of_lt (by omega), decide_eq_false (by omega)]
  rw [h1]
  simp only [IntOp.minsi, h2, Bool.false_eq_true, if_false]
/-- A bin is unchanged by the wrap-around of negative indices. -/
theorem unwrap (z : BitVec 32) : Scalar.select (IntOp.cmpi CmpIPredicate.slt w 0#32) z w = w := by
  have : IntOp.cmpi CmpIPredicate.slt w 0#32 = 0#1 := by
    simp only [IntOp.cmpi, BitVec.slt]
    rw [int_w w n hn hw, decide_eq_false (by simp)]; rfl
  rw [this]; rfl

/-- A bin is unchanged by the clipping followed by the wrap-around. -/
theorem settle (k z : BitVec 32) (hk : k.toNat + 1 = n.toNat) :
    Scalar.select (IntOp.cmpi CmpIPredicate.slt (IntOp.minsi k (IntOp.maxsi 0#32 w)) 0#32) z (IntOp.minsi k (IntOp.maxsi 0#32 w)) = w := by
  rw [clip w n hn hw k hk]; exact unwrap w n hn hw z
/-- A bin is between zero and the last bin. -/
theorem inside (k : BitVec 32) (hk : k.toNat + 1 = n.toNat) : IntOp.andi (IntOp.cmpi CmpIPredicate.sge w 0#32) (IntOp.cmpi CmpIPredicate.sle w k) = 1#1 := by
  rw [ge_one w n hn hw, le_one w n hn hw k hk]; rfl
end Word

/-- Selecting under a one and multiplying by it changes nothing. -/
theorem keep (g f : EReal) : FloatOps.mulf (F := Ideal) (φ := .f32) (Scalar.select 1#1 g f) (FloatOps.uitofp (F := Ideal) .f32 (1#1 : BitVec 1)) = g := by
  show g * ((((1#1 : BitVec 1).toNat : ℝ)) : EReal) = g
  simp

/-- A lookup, with its check of the range and its count of valid positions, at a position whose bin is in range: the table at the bin. -/
theorem lookup {B C L I : ℕ} (wf) (x : FVec Ideal ⟨3, ![B, C, L]⟩ .f32) (idx : IVec ⟨3, ![I, I, 1]⟩ 32) (b : Fin B) (c : Fin C) (i j : Fin I) (hL : L ≤ 64)
    (f o : EReal) (ok : BitVec 1) (w : BitVec 32) (hw : w.toNat < L) (hp : idx (ix3 i j 0) = w) (hk : ok = 1#1)
    (ho : o = FloatOps.uitofp (F := Ideal) .f32 (1#1 : BitVec 1)) :
    (FloatOps.mulf (F := Ideal) (φ := .f32) (Scalar.select ok (Host.gather (lastDims B C L I wf) x idx (ix4 b c i j)) f) o : EReal) = x (ix3 b c ⟨w.toNat, hw⟩) := by
  subst hp hk ho
  exact (keep _ f).trans (gather_last wf x idx b c i j hL hw)

/-! Level 64: the bins of the 128 by 128 positions. -/

/-- The positions the lookup reads are the bins themselves. -/
theorem pos64 (i : S128x128x1.Idx) : val_main_call3_v5 (F := Ideal) i = val_main_v87 (F := Ideal) (idx_main_call3_v5 i) := by
  rw [val_main_call3_v5_apply, val_main_call3_v4_apply, val_main_call3_v1_apply, val_main_call3_v0_apply, val_main_call3_c_apply, val_main_v91_apply, val_main_call2_v4_apply, val_main_call2_v3_apply,
    val_main_call2_v2_apply, val_main_call2_v1_apply, val_main_call2_v0_apply]
  exact settle _ 64#32 (by decide) (lt64 _) 63#32 _ (by decide)

/-- Every position is in range. -/
theorem ok64 (i : S128x128.Idx) : val_main_call3_v12 (F := Ideal) i = 1#1 := by
  refine and_all _ _ _ _ _ (fun _ => rfl) fun p => ?_
  rw [val_main_call3_v11_apply, val_main_call3_v7_apply, val_main_call3_v10_apply, pos64]
  exact inside _ 64#32 (by decide) (lt64 _) 63#32 (by decide)

/-- Every position counts. -/
theorem one64 (i : S128x128.Idx) : val_main_v90 (F := Ideal) i = FloatOps.uitofp (F := Ideal) .f32 (1#1 : BitVec 1) := by
  rw [val_main_v90_apply, val_main_v89_apply, val_main_v88_apply]
  exact congrArg _ (lt_one _ 64#32 (by decide) (lt64 i))

/-! Level 32: the bins of the 64 by 64 positions. -/

/-- The positions the lookup reads are the bins themselves. -/
theorem pos32 (i : S64x64x1.Idx) : val_main_call6_v5 (F := Ideal) i = val_main_v110 (F := Ideal) (idx_main_call6_v5 i) := by
  rw [val_main_call6_v5_apply, val_main_call6_v4_apply, val_main_call6_v1_apply, val_main_call6_v0_apply, val_main_call6_c_apply, val_main_v114_apply, val_main_call5_v4_apply, val_main_call5_v3_apply,
    val_main_call5_v2_apply, val_main_call5_v1_apply, val_main_call5_v0_apply]
  exact settle _ 32#32 (by decide) (lt32 _) 31#32 _ (by decide)

/-- Every position is in range. -/
theorem ok32 (i : S64x64.Idx) : val_main_call6_v12 (F := Ideal) i = 1#1 := by
  refine and_all _ _ _ _ _ (fun _ => rfl) fun p => ?_
  rw [val_main_call6_v11_apply, val_main_call6_v7_apply, val_main_call6_v10_apply, pos32]
  exact inside _ 32#32 (by decide) (lt32 _) 31#32 (by decide)

/-- Every position counts. -/
theorem one32 (i : S64x64.Idx) : val_main_v113 (F := Ideal) i = FloatOps.uitofp (F := Ideal) .f32 (1#1 : BitVec 1) := by
  rw [val_main_v113_apply, val_main_v112_apply, val_main_v111_apply]
  exact congrArg _ (lt_one _ 32#32 (by decide) (lt32 i))

/-! Level 16: the bins of the 32 by 32 positions. -/

/-- The positions the lookup reads are the bins themselves. -/
theorem pos16 (i : S32x32x1.Idx) : val_main_call9_v5 (F := Ideal) i = val_main_v133 (F := Ideal) (idx_main_call9_v5 i) := by
  rw [val_main_call9_v5_apply, val_main_call9_v4_apply, val_main_call9_v1_apply, val_main_call9_v0_apply, val_main_call9_c_apply, val_main_v137_apply, val_main_call8_v4_apply, val_main_call8_v3_apply,
    val_main_call8_v2_apply, val_main_call8_v1_apply, val_main_call8_v0_apply]
  exact settle _ 16#32 (by decide) (lt16 _) 15#32 _ (by decide)

/-- Every position is in range. -/
theorem ok16 (i : S32x32.Idx) : val_main_call9_v12 (F := Ideal) i = 1#1 := by
  refine and_all _ _ _ _ _ (fun _ => rfl) fun p => ?_
  rw [val_main_call9_v11_apply, val_main_call9_v7_apply, val_main_call9_v10_apply, pos16]
  exact inside _ 16#32 (by decide) (lt16 _) 15#32 (by decide)

/-- Every position counts. -/
theorem one16 (i : S32x32.Idx) : val_main_v136 (F := Ideal) i = FloatOps.uitofp (F := Ideal) .f32 (1#1 : BitVec 1) := by
  rw [val_main_v136_apply, val_main_v135_apply, val_main_v134_apply]
  exact congrArg _ (lt_one _ 16#32 (by decide) (lt16 i))

section Results
variable (x0 : FVec Ideal S128x1 .f32) (x1 : FVec Ideal S64x512 .f32) (x2 x3 x4 : FVec Ideal S512 .f32) (x5 : FVec Ideal S512x768 .f32) (x6 x7 x8 : FVec Ideal S768 .f32)
  (x9 : FVec Ideal S768x1536 .f32) (x10 x11 x12 : FVec Ideal S1536 .f32)

/-- The level-64 result of stage 1 at an element: the table at the position's bin. -/
theorem res95 (b : Fin 128) (c : Fin 4) (i j : Fin 128) :
    (val_main_v95 (F := Ideal) x0 x1 x2 x3 x4 x5 x6 x7 x8 (ix4 b c i j) : EReal)
      = val_main_v69 (F := Ideal) x0 x1 x2 x3 x4 x5 x6 x7 x8 (ix2 b ⟨((c : ℕ) * 64 + (val_main_v87 (F := Ideal) (ix2 i j)).toNat), by have := lt64 (ix2 i j); omega⟩) := by
  rw [val_main_v95_apply, val_main_v92_apply, val_main_call3_v14_apply, val_main_v94_apply, val_main_v93_apply]
  refine (lookup (B := 128) (C := 4) (L := 64) (I := 128) (by decide) (val_main_v73 (F := Ideal) x0 x1 x2 x3 x4 x5 x6 x7 x8) _ b c i j (by norm_num) _ _ _ _ (lt64 (ix2 i j))
    ((pos64 (ix3 i j 0)).trans (congrArg _ (by blk_ext))) (ok64 _) (one64 _)).trans ?_
  unfold val_main_v73 val_main_v70
  generalize val_main_v69 (F := Ideal) x0 x1 x2 x3 x4 x5 x6 x7 x8 = Y
  generalize_proofs
  generalize val_main_v87 (F := Ideal) (ix2 i j) = w at *
  pointwise []

/-- The level-32 result of stage 1 at an element: the table at the position's bin. -/
theorem res118 (b : Fin 128) (c : Fin 8) (i j : Fin 64) :
    (val_main_v118 (F := Ideal) x0 x1 x2 x3 x4 x5 x6 x7 x8 (ix4 b c i j) : EReal)
      = val_main_v69 (F := Ideal) x0 x1 x2 x3 x4 x5 x6 x7 x8 (ix2 b ⟨256 + ((c : ℕ) * 32 + (val_main_v110 (F := Ideal) (ix2 i j)).toNat), by have := lt32 (ix2 i j); omega⟩) := by
  rw [val_main_v118_apply, val_main_v115_apply, val_main_call6_v14_apply, val_main_v117_apply, val_main_v116_apply]
  refine (lookup (B := 128) (C := 8) (L := 32) (I := 64) (by decide) (val_main_v96 (F := Ideal) x0 x1 x2 x3 x4 x5 x6 x7 x8) _ b c i j (by norm_num) _ _ _ _ (lt32 (ix2 i j))
    ((pos32 (ix3 i j 0)).trans (congrArg _ (by blk_ext))) (ok32 _) (one32 _)).trans ?_
  unfold val_main_v96 val_main_v71
  generalize val_main_v69 (F := Ideal) x0 x1 x2 x3 x4 x5 x6 x7 x8 = Y
  generalize_proofs
  generalize val_main_v110 (F := Ideal) (ix2 i j) = w at *
  pointwise []

/-- The level-16 result of stage 1 at an element: the table at the position's bin. -/
theorem res141 (b : Fin 128) (c : Fin 16) (i j : Fin 32) :
    (val_main_v141 (F := Ideal) x0 x1 x2 x3 x4 x5 x6 x7 x8 (ix4 b c i j) : EReal)
      = val_main_v69 (F := Ideal) x0 x1 x2 x3 x4 x5 x6 x7 x8 (ix2 b ⟨512 + ((c : ℕ) * 16 + (val_main_v133 (F := Ideal) (ix2 i j)).toNat), by have := lt16 (ix2 i j); omega⟩) := by
  rw [val_main_v141_apply, val_main_v138_apply, val_main_call9_v14_apply, val_main_v140_apply, val_main_v139_apply]
  refine (lookup (B := 128) (C := 16) (L := 16) (I := 32) (by decide) (val_main_v119 (F := Ideal) x0 x1 x2 x3 x4 x5 x6 x7 x8) _ b c i j (by norm_num) _ _ _ _ (lt16 (ix2 i j))
    ((pos16 (ix3 i j 0)).trans (congrArg _ (by blk_ext))) (ok16 _) (one16 _)).trans ?_
  unfold val_main_v119 val_main_v72
  generalize val_main_v69 (F := Ideal) x0 x1 x2 x3 x4 x5 x6 x7 x8 = Y
  generalize_proofs
  generalize val_main_v133 (F := Ideal) (ix2 i j) = w at *
  pointwise []

/-- The level-64 result of stage 2 at an element: the table at the position's bin. -/
theorem res196 (b : Fin 128) (c : Fin 8) (i j : Fin 128) :
    (val_main_v196 (F := Ideal) x0 x1 x2 x3 x4 x5 x6 x7 x8 x9 x10 x11 x12 (ix4 b c i j) : EReal)
      = val_main_v170 (F := Ideal) x0 x1 x2 x3 x4 x5 x6 x7 x8 x9 x10 x11 x12 (ix2 b ⟨((c : ℕ) * 64 + (val_main_v87 (F := Ideal) (ix2 i j)).toNat), by have := lt64 (ix2 i j); omega⟩) := by
  rw [val_main_v196_apply, val_main_v193_apply, val_main_call12_v14_apply, val_main_v195_apply, val_main_v194_apply]
  refine (lookup (B := 128) (C := 8) (L := 64) (I := 128) (by decide) (val_main_v174 (F := Ideal) x0 x1 x2 x3 x4 x5 x6 x7 x8 x9 x10 x11 x12) _ b c i j (by norm_num) _ _ _ _ (lt64 (ix2 i j))
    ((pos64 (ix3 i j 0)).trans (congrArg _ (by blk_ext))) (ok64 _) (one64 _)).trans ?_
  unfold val_main_v174 val_main_v171
  generalize val_main_v170 (F := Ideal) x0 x1 x2 x3 x4 x5 x6 x7 x8 x9 x10 x11 x12 = Y
  generalize_proofs
  generalize val_main_v87 (F := Ideal) (ix2 i j) = w at *
  pointwise []

/-- The level-32 result of stage 2 at an element: the table at the position's bin. -/
theorem res219 (b : Fin 128) (c : Fin 16) (i j : Fin 64) :
    (val_main_v219 (F := Ideal) x0 x1 x2 x3 x4 x5 x6 x7 x8 x9 x10 x11 x12 (ix4 b c i j) : EReal)
      = val_main_v170 (F := Ideal) x0 x1 x2 x3 x4 x5 x6 x7 x8 x9 x10 x11 x12 (ix2 b ⟨512 + ((c : ℕ) * 32 + (val_main_v110 (F := Ideal) (ix2 i j)).toNat), by have := lt32 (ix2 i j); omega⟩) := by
  rw [val_main_v219_apply, val_main_v216_apply, val_main_call15_v14_apply, val_main_v218_apply, val_main_v217_apply]
  refine (lookup (B := 128) (C := 16) (L := 32) (I := 64) (by decide) (val_main_v197 (F := Ideal) x0 x1 x2 x3 x4 x5 x6 x7 x8 x9 x10 x11 x12) _ b c i j (by norm_num) _ _ _ _ (lt32 (ix2 i j))
    ((pos32 (ix3 i j 0)).trans (congrArg _ (by blk_ext))) (ok32 _) (one32 _)).trans ?_
  unfold val_main_v197 val_main_v172
  generalize val_main_v170 (F := Ideal) x0 x1 x2 x3 x4 x5 x6 x7 x8 x9 x10 x11 x12 = Y
  generalize_proofs
  generalize val_main_v110 (F := Ideal) (ix2 i j) = w at *
  pointwise []

/-- The level-16 result of stage 2 at an element: the table at the position's bin. -/
theorem res242 (b : Fin 128) (c : Fin 32) (i j : Fin 32) :
    (val_main_v242 (F := Ideal) x0 x1 x2 x3 x4 x5 x6 x7 x8 x9 x10 x11 x12 (ix4 b c i j) : EReal)
      = val_main_v170 (F := Ideal) x0 x1 x2 x3 x4 x5 x6 x7 x8 x9 x10 x11 x12 (ix2 b ⟨1024 + ((c : ℕ) * 16 + (val_main_v133 (F := Ideal) (ix2 i j)).toNat), by have := lt16 (ix2 i j); omega⟩) := by
  rw [val_main_v242_apply, val_main_v239_apply, val_main_call18_v14_apply, val_main_v241_apply, val_main_v240_apply]
  refine (lookup (B := 128) (C := 32) (L := 16) (I := 32) (by decide) (val_main_v220 (F := Ideal) x0 x1 x2 x3 x4 x5 x6 x7 x8 x9 x10 x11 x12) _ b c i j (by norm_num) _ _ _ _ (lt16 (ix2 i j))
    ((pos16 (ix3 i j 0)).trans (congrArg _ (by blk_ext))) (ok16 _) (one16 _)).trans ?_
  unfold val_main_v220 val_main_v173
  generalize val_main_v170 (F := Ideal) x0 x1 x2 x3 x4 x5 x6 x7 x8 x9 x10 x11 x12 = Y
  generalize_proofs
  generalize val_main_v133 (F := Ideal) (ix2 i j) = w at *
  pointwise []
end Results
end Cert.Take
end
-- ==== Proof.Final.lean ====
/- The six results of the two-call program, element by element: the entry of the distance features at the position's bin,
   which is what the reference reads there. -/
module
public import proofs.«01_k».proof.Proof.Host
public import proofs.«01_k».proof.Proof.Take
@[expose] public section
set_option maxRecDepth 16384
noncomputable section
namespace Cert.KernelIdeal.Final
open Idealize.ShloMosaic Idealize.ShloMosaic.TcCoe Idealize.SL.Sem
open Cert.KernelIdeal Cert.KernelIdeal.Gen Cert.KernelIdeal.Host Cert.KernelIdeal.Region1
open Cert.ReferenceIdeal.Read Cert.Bins

/-- A sum against the indicator of one bin is the term of that bin. -/
theorem onehot {K : ℕ} (hK : K ≤ 64) (w : BitVec 32) (hw : w.toNat < K) (T : Fin K → EReal) :
    (∑ k : Fin K, (FloatOps.uitofp (F := Ideal) .f32 (IntOp.cmpi .eq w (BitVec.ofNat 32 k)) : EReal) * T k) = T ⟨w.toNat, hw⟩ := by
  have hi : ∀ k : Fin K, (FloatOps.uitofp (F := Ideal) .f32 (IntOp.cmpi .eq w (BitVec.ofNat 32 k)) : EReal) = if k = ⟨w.toNat, hw⟩ then 1 else 0 := fun k => by
    have hk := k.isLt
    by_cases h : k = ⟨w.toNat, hw⟩
    · have e : w = BitVec.ofNat 32 k := by rw [h]; exact BitVec.eq_of_toNat_eq ((Nat.mod_eq_of_lt w.isLt).symm.trans (BitVec.toNat_ofNat _ _).symm)
      rw [if_pos h, ← e]
      show (((IntOp.cmpi .eq w w).toNat : ℝ) : EReal) = 1
      simp [IntOp.cmpi]
    · have e : w ≠ BitVec.ofNat 32 k := fun e => h (Fin.ext (by
        have := congrArg BitVec.toNat e
        rw [BitVec.toNat_ofNat, Nat.mod_eq_of_lt (by omega)] at this
        exact this.symm))
      rw [if_neg h]
      show (((IntOp.cmpi .eq w (BitVec.ofNat 32 k)).toNat : ℝ) : EReal) = 0
      simp [IntOp.cmpi, e]
  rw [Finset.sum_congr rfl fun k _ => by rw [hi k]]
  simp

section Elements
variable (A : FVec Ideal S128x768 .f32) (B : FVec Ideal S128x1536 .f32)

theorem e8 (p : Fin 16) (i j : Fin 64) (b : Fin 128) :
    H8 hot32 (tab32 A B) (ix4 p i j b) = B (ix2 b ⟨512 + ((p : ℕ) * 32 + (val_main_v110 (F := Ideal) (ix2 i j)).toNat), by have := lt32 (ix2 i j); omega⟩) :=
  (Finset.sum_congr rfl fun k _ => congrArg₂ (fun x y : EReal => x * y) (hot32_apply i j k _) (tab32_lo A B k p b _)).trans
    (onehot (by norm_num) _ (lt32 (ix2 i j)) (fun k => B (ix2 b ⟨512 + ((p : ℕ) * 32 + k), by omega⟩)))

theorem e11 (p : Fin 8) (i j : Fin 64) (b : Fin 128) :
    H11 hot32 (tab32 A B) (ix4 p i j b) = A (ix2 b ⟨256 + ((p : ℕ) * 32 + (val_main_v110 (F := Ideal) (ix2 i j)).toNat), by have := lt32 (ix2 i j); omega⟩) :=
  (Finset.sum_congr rfl fun k _ => congrArg₂ (fun x y : EReal => x * y) (hot32_apply i j k _) (tab32_hi A B k p b _)).trans
    (onehot (by norm_num) _ (lt32 (ix2 i j)) (fun k => A (ix2 b ⟨256 + ((p : ℕ) * 32 + k), by omega⟩)))

theorem e9 (p : Fin 32) (i j : Fin 32) (b : Fin 128) :
    H9 hot16 (tab16 A B) (ix4 p i j b) = B (ix2 b ⟨1024 + ((p : ℕ) * 16 + (val_main_v133 (F := Ideal) (ix2 i j)).toNat), by have := lt16 (ix2 i j); omega⟩) :=
  (Finset.sum_congr rfl fun k _ => congrArg₂ (fun x y : EReal => x * y) (hot16_apply i j k _) (tab16_lo A B k p b _)).trans
    (onehot (by norm_num) _ (lt16 (ix2 i j)) (fun k => B (ix2 b ⟨1024 + ((p : ℕ) * 16 + k), by omega⟩)))

theorem e12 (p : Fin 16) (i j : Fin 32) (b : Fin 128) :
    H12 hot16 (tab16 A B) (ix4 p i j b) = A (ix2 b ⟨512 + ((p : ℕ) * 16 + (val_main_v133 (F := Ideal) (ix2 i j)).toNat), by have := lt16 (ix2 i j); omega⟩) :=
  (Finset.sum_congr rfl fun k _ => congrArg₂ (fun x y : EReal => x * y) (hot16_apply i j k _) (tab16_hi A B k p b _)).trans
    (onehot (by norm_num) _ (lt16 (ix2 i j)) (fun k => A (ix2 b ⟨512 + ((p : ℕ) * 16 + k), by omega⟩)))

theorem e7 (p : Fin 8) (i j b : Fin 128) (h) :
    H7 (val_main_v87 (F := Ideal)) (row8 B) (ix3 ⟨(b : ℕ) * 8 + p, h⟩ i j) = B (ix2 b ⟨(p : ℕ) * 64 + (val_main_v87 (F := Ideal) (ix2 i j)).toNat, by have := lt64 (ix2 i j); omega⟩) := by
  have hl := lt64 (ix2 i j)
  have hm : ∀ (k l : ℕ) (hk : k < 64) (hl : l < 64), k = l → (ix2 (⟨(b : ℕ) * 8 + p, h⟩ : Fin _) ⟨k, hk⟩ : S1024x64.Idx) = ix2 ⟨(b : ℕ) * 8 + p, h⟩ ⟨l, hl⟩ := by
    rintro k _ _ _ rfl; rfl
  exact (congrArg (row8 B) (hm _ _ (Nat.mod_lt _ (by norm_num)) hl (Nat.mod_eq_of_lt hl))).trans (row8_apply B b p ⟨_, hl⟩ h)

theorem e10 (p : Fin 4) (i j b : Fin 128) (h) :
    H10 (val_main_v87 (F := Ideal)) (row4 A) (ix3 ⟨(b : ℕ) * 4 + p, h⟩ i j) = A (ix2 b ⟨(p : ℕ) * 64 + (val_main_v87 (F := Ideal) (ix2 i j)).toNat, by have := lt64 (ix2 i j); omega⟩) := by
  have hl := lt64 (ix2 i j)
  have hm : ∀ (k l : ℕ) (hk : k < 64) (hl : l < 64), k = l → (ix2 (⟨(b : ℕ) * 4 + p, h⟩ : Fin _) ⟨k, hk⟩ : S512x64.Idx) = ix2 ⟨(b : ℕ) * 4 + p, h⟩ ⟨l, hl⟩ := by
    rintro k _ _ _ rfl; rfl
  exact (congrArg (row4 A) (hm _ _ (Nat.mod_lt _ (by norm_num)) hl (Nat.mod_eq_of_lt hl))).trans (row4_apply A b p ⟨_, hl⟩ h)
end Elements

variable (m : (ℓ : Loc nD τ sig) → Buf (Elt Ideal) ℓ) (ρ : Dev nD → PrngReg) (c : Dev nD)

theorem read80 (X : FVec Ideal S1024x128x128 .f32) (b : Fin 128) (p : Fin 8) (i j : Fin 128) :
    (shapeCast S128x8x128x128 X shapeCasts_S1024x128x128_S128x8x128x128 (ix4 b p i j) : EReal) = X (ix3 ⟨(b : ℕ) * 8 + p, by omega⟩ i j) := by
  pointwise []

/-- Result 80 of the two-call program is the reference's 196. -/
theorem w80 : W10 m ρ c (Proc.devRef .tc main_v80) = val_main_v196 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  have h0 : W9 m ρ c (Proc.devRef .tc main_v79_0) = (H7 (val_main_v87 (F := Ideal)) (row8 (Region0.KVB m c)) : FVec Ideal S1024x128x128 .f32) := by
    refine (W9_arr m ρ c 7).trans ((final7 (V8 m ρ) c (fun i j => by rw [v36]; exact lt64 _)).trans ?_)
    rw [v36, v22]
  have h1 : W10 m ρ c (Proc.devRef .tc main_v80) = shapeCast S128x8x128x128 (H7 (val_main_v87 (F := Ideal)) (row8 (Region0.KVB m c)) : FVec Ideal S1024x128x128 .f32) shapeCasts_S1024x128x128_S128x8x128x128 := by
    show StableHlo.after hostOps2 _ _ = _
    after_results
    rw [h0]; rfl
  refine h1.trans (funext fun y => ?_)
  rw [ValueIdx.eq_ix4 y]
  exact (read80 _ _ _ _ _).trans ((e7 (Region0.KVB m c) (y 1) (y 2) (y 3) (y 0) _).trans (Cert.Take.res196 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (y 0) (y 1) (y 2) (y 3)).symm)

theorem read81 (X : FVec Ideal S16x64x64x128 .f32) (b : Fin 128) (p : Fin 16) (i j : Fin 64) :
    (transpose S128x16x64x64 [3, 0, 1, 2] X transposes_S16x64x64x128_S128x16x64x64_3_0_1_2 (ix4 b p i j) : EReal) = X (ix4 p i j b) := by
  pointwise []

/-- Result 81 of the two-call program is the reference's 219. -/
theorem w81 : W10 m ρ c (Proc.devRef .tc main_v81) = val_main_v219 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  have h0 : W9 m ρ c (Proc.devRef .tc main_v79_1) = (H8 hot32 (tab32 (Region0.KV m c) (Region0.KVB m c)) : FVec Ideal S16x64x64x128 .f32) := by
    refine (W9_arr m ρ c 8).trans ((final8 (V8 m ρ) c).trans ?_)
    rw [v57, v9]
  have h1 : W10 m ρ c (Proc.devRef .tc main_v81) = transpose S128x16x64x64 [3, 0, 1, 2] (H8 hot32 (tab32 (Region0.KV m c) (Region0.KVB m c)) : FVec Ideal S16x64x64x128 .f32) transposes_S16x64x64x128_S128x16x64x64_3_0_1_2 := by
    show StableHlo.after hostOps2 _ _ = _
    after_results
    rw [h0]
  refine h1.trans (funext fun y => ?_)
  rw [ValueIdx.eq_ix4 y]
  exact (read81 _ _ _ _ _).trans ((e8 (Region0.KV m c) (Region0.KVB m c) (y 1) (y 2) (y 3) (y 0)).trans (Cert.Take.res219 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (y 0) (y 1) (y 2) (y 3)).symm)

theorem read82 (X : FVec Ideal S32x32x32x128 .f32) (b : Fin 128) (p : Fin 32) (i j : Fin 32) :
    (transpose S128x32x32x32 [3, 0, 1, 2] X transposes_S32x32x32x128_S128x32x32x32_3_0_1_2 (ix4 b p i j) : EReal) = X (ix4 p i j b) := by
  pointwise []

/-- Result 82 of the two-call program is the reference's 242. -/
theorem w82 : W10 m ρ c (Proc.devRef .tc main_v82) = val_main_v242 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  have h0 : W9 m ρ c (Proc.devRef .tc main_v79_2) = (H9 hot16 (tab16 (Region0.KV m c) (Region0.KVB m c)) : FVec Ideal S32x32x32x128 .f32) := by
    refine (W9_arr m ρ c 9).trans ((final9 (V8 m ρ) c).trans ?_)
    rw [v78, v18]
  have h1 : W10 m ρ c (Proc.devRef .tc main_v82) = transpose S128x32x32x32 [3, 0, 1, 2] (H9 hot16 (tab16 (Region0.KV m c) (Region0.KVB m c)) : FVec Ideal S32x32x32x128 .f32) transposes_S32x32x32x128_S128x32x32x32_3_0_1_2 := by
    show StableHlo.after hostOps2 _ _ = _
    after_results
    rw [h0]
  refine h1.trans (funext fun y => ?_)
  rw [ValueIdx.eq_ix4 y]
  exact (read82 _ _ _ _ _).trans ((e9 (Region0.KV m c) (Region0.KVB m c) (y 1) (y 2) (y 3) (y 0)).trans (Cert.Take.res242 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (y 0) (y 1) (y 2) (y 3)).symm)

theorem read83 (X : FVec Ideal S512x128x128 .f32) (b : Fin 128) (p : Fin 4) (i j : Fin 128) :
    (shapeCast S128x4x128x128 X shapeCasts_S512x128x128_S128x4x128x128 (ix4 b p i j) : EReal) = X (ix3 ⟨(b : ℕ) * 4 + p, by omega⟩ i j) := by
  pointwise []

/-- Result 83 of the two-call program is the reference's 95. -/
theorem w83 : W10 m ρ c (Proc.devRef .tc main_v83) = val_main_v95 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  have h0 : W9 m ρ c (Proc.devRef .tc main_v79_3) = (H10 (val_main_v87 (F := Ideal)) (row4 (Region0.KV m c)) : FVec Ideal S512x128x128 .f32) := by
    refine (W9_arr m ρ c 10).trans ((final10 (V8 m ρ) c (fun i j => by rw [v36]; exact lt64 _)).trans ?_)
    rw [v36, v20]
  have h1 : W10 m ρ c (Proc.devRef .tc main_v83) = shapeCast S128x4x128x128 (H10 (val_main_v87 (F := Ideal)) (row4 (Region0.KV m c)) : FVec Ideal S512x128x128 .f32) shapeCasts_S512x128x128_S128x4x128x128 := by
    show StableHlo.after hostOps2 _ _ = _
    after_results
    rw [h0]; rfl
  refine h1.trans (funext fun y => ?_)
  rw [ValueIdx.eq_ix4 y]
  exact (read83 _ _ _ _ _).trans ((e10 (Region0.KV m c) (y 1) (y 2) (y 3) (y 0) _).trans (Cert.Take.res95 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (y 0) (y 1) (y 2) (y 3)).symm)

theorem read84 (X : FVec Ideal S8x64x64x128 .f32) (b : Fin 128) (p : Fin 8) (i j : Fin 64) :
    (transpose S128x8x64x64 [3, 0, 1, 2] X transposes_S8x64x64x128_S128x8x64x64_3_0_1_2 (ix4 b p i j) : EReal) = X (ix4 p i j b) := by
  pointwise []

/-- Result 84 of the two-call program is the reference's 118. -/
theorem w84 : W10 m ρ c (Proc.devRef .tc main_v84) = val_main_v118 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  have h0 : W9 m ρ c (Proc.devRef .tc main_v79_4) = (H11 hot32 (tab32 (Region0.KV m c) (Region0.KVB m c)) : FVec Ideal S8x64x64x128 .f32) := by
    refine (W9_arr m ρ c 11).trans ((final11 (V8 m ρ) c).trans ?_)
    rw [v57, v9]
  have h1 : W10 m ρ c (Proc.devRef .tc main_v84) = transpose S128x8x64x64 [3, 0, 1, 2] (H11 hot32 (tab32 (Region0.KV m c) (Region0.KVB m c)) : FVec Ideal S8x64x64x128 .f32) transposes_S8x64x64x128_S128x8x64x64_3_0_1_2 := by
    show StableHlo.after hostOps2 _ _ = _
    after_results
    rw [h0]
  refine h1.trans (funext fun y => ?_)
  rw [ValueIdx.eq_ix4 y]
  exact (read84 _ _ _ _ _).trans ((e11 (Region0.KV m c) (Region0.KVB m c) (y 1) (y 2) (y 3) (y 0)).trans (Cert.Take.res118 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (y 0) (y 1) (y 2) (y 3)).symm)

theorem read85 (X : FVec Ideal S16x32x32x128 .f32) (b : Fin 128) (p : Fin 16) (i j : Fin 32) :
    (transpose S128x16x32x32 [3, 0, 1, 2] X transposes_S16x32x32x128_S128x16x32x32_3_0_1_2 (ix4 b p i j) : EReal) = X (ix4 p i j b) := by
  pointwise []

/-- Result 85 of the two-call program is the reference's 141. -/
theorem w85 : W10 m ρ c (Proc.devRef .tc main_v85) = val_main_v141 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  have h0 : W9 m ρ c (Proc.devRef .tc main_v79_5) = (H12 hot16 (tab16 (Region0.KV m c) (Region0.KVB m c)) : FVec Ideal S16x32x32x128 .f32) := by
    refine (W9_arr m ρ c 12).trans ((final12 (V8 m ρ) c).trans ?_)
    rw [v78, v18]
  have h1 : W10 m ρ c (Proc.devRef .tc main_v85) = transpose S128x16x32x32 [3, 0, 1, 2] (H12 hot16 (tab16 (Region0.KV m c) (Region0.KVB m c)) : FVec Ideal S16x32x32x128 .f32) transposes_S16x32x32x128_S128x16x32x32_3_0_1_2 := by
    show StableHlo.after hostOps2 _ _ = _
    after_results
    rw [h0]
  refine h1.trans (funext fun y => ?_)
  rw [ValueIdx.eq_ix4 y]
  exact (read85 _ _ _ _ _).trans ((e12 (Region0.KV m c) (Region0.KVB m c) (y 1) (y 2) (y 3) (y 0)).trans (Cert.Take.res141 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (y 0) (y 1) (y 2) (y 3)).symm)
end Cert.KernelIdeal.Final
end
-- ==== Proof.Values.lean ====
/- The value claim: the two programs' six results agree at the extended reals. -/
module
public import proofs.«01_k».proof.Defs
public import proofs.«01_k».proof.Proof.KRun
public import proofs.«01_k».proof.Proof.Final
public import proofs.«01_k».proof.Proof.Gen.ReferenceIdeal.Run
@[expose] public section
set_option maxRecDepth 16384
noncomputable section
namespace Cert.Proof
open Idealize.ShloMosaic Idealize.ShloMosaic.TcCoe Idealize.SL.Sem

section Reference
open Cert.ReferenceIdeal Cert.ReferenceIdeal.Read
/-- The reference's run, its results named by their defining terms. -/
theorem reference_run (m : (ℓ : Loc nD τ sig) → Buf (Elt Ideal) ℓ) (ρ : Dev nD → PrngReg) :
    θ_run (Cert.ReferenceIdeal.defs (F := Ideal)) (onTc (τ := τ) (main (F := Ideal))) ⟨m, fun _ => 0, ρ⟩ fun r => ∀ c : Dev nD,
      r.2.mem ((c.tc : Thread nD τ).loc main_v196) = val_main_v196 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_v219) = val_main_v219 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_v242) = val_main_v242 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_v95) = val_main_v95 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v118) = val_main_v118 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v141) = val_main_v141 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  θ_run_mono (Cert.ReferenceIdeal.Value.run m ρ) fun r h c => by
    obtain ⟨h0, h1, h2, h3, h4, h5, h⟩ := h c
    exact ⟨h0.trans (val_main_v196_eq _), h1.trans (val_main_v219_eq _), h2.trans (val_main_v242_eq _),
      h3.trans (val_main_v95_eq _), h4.trans (val_main_v118_eq _), h5.trans (val_main_v141_eq _), h⟩
end Reference

open Cert.KernelIdeal Cert.KernelIdeal.Gen Cert.ReferenceIdeal.Read
theorem values : Cert.algebraic_KernelIdeal_ReferenceIdeal (hKernelIdeal := Cert.KernelIdeal.Gen.facts) (hReferenceIdeal := Cert.ReferenceIdeal.Gen.facts) := by
  intro m g m' g' _ hargs
  refine ⟨fun c => val_main_v196 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)),
    fun c => val_main_v219 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)),
    fun c => val_main_v242 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)),
    fun c => val_main_v95 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)),
    fun c => val_main_v118 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)),
    fun c => val_main_v141 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)), ?_, ?_⟩
  · refine θ_run_mono (Cert.KernelIdeal.Run.run_buffers m g) fun r h c => ⟨(h c main_v80 (by decide)).trans (Final.w80 m g c),
      (h c main_v81 (by decide)).trans (Final.w81 m g c),
      (h c main_v82 (by decide)).trans (Final.w82 m g c),
      (h c main_v83 (by decide)).trans (Final.w83 m g c),
      (h c main_v84 (by decide)).trans (Final.w84 m g c),
      (h c main_v85 (by decide)).trans (Final.w85 m g c),
      (h c main_arg0 (by decide)).trans (W10_main_arg0 m g c),
      (h c main_arg1 (by decide)).trans (W10_main_arg1 m g c),
      (h c main_arg2 (by decide)).trans (W10_main_arg2 m g c),
      (h c main_arg3 (by decide)).trans (W10_main_arg3 m g c),
      (h c main_arg4 (by decide)).trans (W10_main_arg4 m g c),
      (h c main_arg5 (by decide)).trans (W10_main_arg5 m g c),
      (h c main_arg6 (by decide)).trans (W10_main_arg6 m g c),
      (h c main_arg7 (by decide)).trans (W10_main_arg7 m g c),
      (h c main_arg8 (by decide)).trans (W10_main_arg8 m g c),
      (h c main_arg9 (by decide)).trans (W10_main_arg9 m g c),
      (h c main_arg10 (by decide)).trans (W10_main_arg10 m g c),
      (h c main_arg11 (by decide)).trans (W10_main_arg11 m g c),
      (h c main_arg12 (by decide)).trans (W10_main_arg12 m g c)⟩
  · refine θ_run_mono (reference_run m' g') fun r h c => ?_
    obtain ⟨h0, h1, h2, h3, h4, h5, h⟩ := h c
    obtain ⟨a0, a1, a2, a3, a4, a5, a6, a7, a8, a9, a10, a11, a12⟩ := hargs c
    refine ⟨h0.trans ?_, h1.trans ?_, h2.trans ?_, h3.trans ?_, h4.trans ?_, h5.trans ?_, h⟩
    · rw [a0, a1, a2, a3, a4, a5, a6, a7, a8, a9, a10, a11, a12]
    · rw [a0, a1, a2, a3, a4, a5, a6, a7, a8, a9, a10, a11, a12]
    · rw [a0, a1, a2, a3, a4, a5, a6, a7, a8, a9, a10, a11, a12]
    · rw [a0, a1, a2, a3, a4, a5, a6, a7, a8]
    · rw [a0, a1, a2, a3, a4, a5, a6, a7, a8]
    · rw [a0, a1, a2, a3, a4, a5, a6, a7, a8]
end Cert.Proof
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.RefFrame
public import proofs.«01_k».proof.Proof.Values
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, trivial, values⟩

end Cert.Proof

end
